-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_one_coeff [hPre_nonneg_one_coeff : Cert.Pre_nonneg_one_coeff.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_one_coeff.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_one_coeff [hPre_nonneg_one_coeff : Cert.Pre_nonneg_one_coeff.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_one_coeff.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonneg_one_coeff [hKernelIdeal : Cert.KernelIdeal.Facts] [hPre_nonneg_one_coeff : Cert.Pre_nonneg_one_coeff.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_one_coeff m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonneg_one_coeff [hReferenceIdeal : Cert.ReferenceIdeal.Facts] [hPre_nonneg_one_coeff : Cert.Pre_nonneg_one_coeff.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_one_coeff m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonneg_one_coeff [hKernelIdeal : Cert.KernelIdeal.Facts] [hReferenceIdeal : Cert.ReferenceIdeal.Facts] [hPre_nonneg_one_coeff : Cert.Pre_nonneg_one_coeff.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_one_coeff m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_nonneg_one_coeff : Cert.Pre_nonneg_one_coeff.Facts),
    quiescent_Kernel (hKernel := hKernel)
    ∧ quiescent_KernelIdeal (hKernelIdeal := hKernelIdeal)
    ∧ quiescent_KernelIdeal_pre_nonneg_one_coeff (hKernelIdeal := hKernelIdeal) (hPre_nonneg_one_coeff := hPre_nonneg_one_coeff)
    ∧ quiescent_ReferenceIdeal (hReferenceIdeal := hReferenceIdeal)
    ∧ quiescent_ReferenceIdeal_pre_nonneg_one_coeff (hReferenceIdeal := hReferenceIdeal) (hPre_nonneg_one_coeff := hPre_nonneg_one_coeff)
    ∧ preserves_Kernel_KernelIdeal
    ∧ algebraic_KernelIdeal_ReferenceIdeal_pre_nonneg_one_coeff (hKernelIdeal := hKernelIdeal) (hReferenceIdeal := hReferenceIdeal) (hPre_nonneg_one_coeff := hPre_nonneg_one_coeff)
-- ==== Pre_nonneg_one_coeff.lean ====
abbrev S32x128x8000 : Shape := ⟨3, ![32, 128, 8000]⟩
abbrev S128 : Shape := ⟨1, ![128]⟩
abbrev S_ : Shape := ⟨0, ![]⟩
abbrev S1 : Shape := ⟨1, ![1]⟩

class Facts : Prop where
  bcast_S_S32x128x8000 : S_.BroadcastsInDim S32x128x8000 (![] : Fin 0 → Fin S32x128x8000.rank)
  reducesTo_S32x128x8000_S_d0_1_2 : S32x128x8000.ReducesTo [0, 1, 2] S_
  h_S_ : 0 < S_.numel
  slices_S128_S1_0 : S128.Slices ![0] S1
  shapeCasts_S1_S_ : S1.ShapeCasts S_
  bcast_S_S128 : S_.BroadcastsInDim S128 (![] : Fin 0 → Fin S128.rank)
  reducesTo_S128_S_d0 : S128.ReducesTo [0] S_

variable [Facts]

def fn {F : FTy → Type} [FloatOps F] (main_arg0 : FVec F S32x128x8000 .f32) (main_arg1 : FVec F S128 .f32) (main_arg2 : FVec F S128 .f32) (main_arg3 : FVec F S128 .f32) (main_arg4 : FVec F S128 .f32) : IVec S_ 1 :=
  let main_cst : FVec F S_ .f32 := constant S_ .f32 0x00000000#32
  let main_v0 : FVec F S32x128x8000 .f32 := broadcastInDim S32x128x8000 ![] bcast_S_S32x128x8000 main_cst
  let main_v1 : IVec S32x128x8000 1 := cmpf .oge main_arg0 main_v0
  let main_c : IVec S_ 1 := constantI S_ 1 1#1
  let main_v2 : IVec S_ 1 := (fun x v => Host.reduce IntOp.andi x v reducesTo_S32x128x8000_S_d0_1_2 h_S_) main_v1 main_c
  let main_v3 : FVec F S1 .f32 := (extractStridedSlice S1 ![0] · slices_S128_S1_0) main_arg1
  let main_v4 : FVec F S_ .f32 := shapeCast S_ main_v3 shapeCasts_S1_S_
  let main_v5 : FVec F S128 .f32 := broadcastInDim S128 ![] bcast_S_S128 main_v4
  let main_v6 : IVec S128 1 := cmpf .oeq main_arg1 main_v5
  let main_c_0 : IVec S_ 1 := constantI S_ 1 1#1
  let main_v7 : IVec S_ 1 := (fun x v => Host.reduce IntOp.andi x v reducesTo_S128_S_d0 h_S_) main_v6 main_c_0
  let main_cst_1 : FVec F S_ .f32 := constant S_ .f32 0x00000000#32
  let main_v8 : FVec F S128 .f32 := broadcastInDim S128 ![] bcast_S_S128 main_cst_1
  let main_v9 : IVec S128 1 := cmpf .ole main_arg1 main_v8
  let main_c_2 : IVec S_ 1 := constantI S_ 1 1#1
  let main_v10 : IVec S_ 1 := (fun x v => Host.reduce IntOp.andi x v reducesTo_S128_S_d0 h_S_) main_v9 main_c_2
  let main_v11 : IVec S_ 1 := andi main_v7 main_v10
  let main_v12 : IVec S_ 1 := andi main_v2 main_v11
  main_v12
-- ==== Kernel.lean ====
abbrev S32x128x8000 : Shape := ⟨3, ![32, 128, 8000]⟩
abbrev S128 : Shape := ⟨1, ![128]⟩
abbrev S32x8000x128 : Shape := ⟨3, ![32, 8000, 128]⟩
abbrev S1 : Shape := ⟨1, ![1]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x8000x128 : Shape := ⟨3, ![2, 8000, 128]⟩
abbrev S1x1x128 : Shape := ⟨3, ![1, 1, 128]⟩
abbrev S1x128x128 : Shape := ⟨3, ![1, 128, 128]⟩
abbrev S1x64x128 : Shape := ⟨3, ![1, 64, 128]⟩
abbrev S64x128 : Shape := ⟨2, ![64, 128]⟩
abbrev S64x64 : Shape := ⟨2, ![64, 64]⟩
abbrev S64x1 : Shape := ⟨2, ![64, 1]⟩

abbrev nBuf : Space → Nat
  | .hbm => 50
  | .vmem => 10
  | .smem => 0
  | _ => 0

abbrev bufTy : (tb : Table) → Fin (tcTables nBuf tb) → BufTy
  | .hbm, ⟨0, _⟩ => ⟨S32x128x8000, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S32x8000x128, .f32⟩
  | .hbm, ⟨6, _⟩ => ⟨S128, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .i32⟩
  | .hbm, ⟨13, _⟩ => ⟨S128x1, .i32⟩
  | .hbm, ⟨14, _⟩ => ⟨S1x128, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .i1⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128x1, .f32⟩
  | .hbm, ⟨39, _⟩ => ⟨S128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S32x8000x128, .f32⟩
  | .hbm, ⟨49, _⟩ => ⟨S32x128x8000, .f32⟩
  | .local _ .vmem, ⟨0, _⟩ => ⟨S2x8000x128, .f32⟩
  | .local _ .vmem, ⟨1, _⟩ => ⟨S2x8000x128, .f32⟩
  | .local _ .vmem, ⟨2, _⟩ => ⟨S128x128, .f32⟩
  | .local _ .vmem, ⟨3, _⟩ => ⟨S128x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2x8000x128, .f32⟩
  | .local _ .vmem, ⟨9, _⟩ => ⟨S2x8000x128, .f32⟩
  | _, _ => ⟨S32x128x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32x128x8000 : Shape := ⟨3, ![32, 128, 8000]⟩
abbrev S128 : Shape := ⟨1, ![128]⟩
abbrev S8000x32x128 : Shape := ⟨3, ![8000, 32, 128]⟩
abbrev S1x32x128 : Shape := ⟨3, ![1, 32, 128]⟩
abbrev S32x128 : Shape := ⟨2, ![32, 128]⟩
abbrev S7999x32x128 : Shape := ⟨3, ![7999, 32, 128]⟩
abbrev S_ : Shape := ⟨0, ![]⟩
abbrev S1x128 : Shape := ⟨2, ![1, 128]⟩
abbrev S32x128x1 : Shape := ⟨3, ![32, 128, 1]⟩
abbrev S32x128x7999 : Shape := ⟨3, ![32, 128, 7999]⟩
abbrev S128x1 : Shape := ⟨2, ![128, 1]⟩
abbrev S1x128x1 : Shape := ⟨3, ![1, 128, 1]⟩

abbrev nBuf : Space → Nat
  | .hbm => 74
  | .vmem => 0
  | .smem => 0
  | _ => 0

abbrev bufTy : (tb : Table) → Fin (tcTables nBuf tb) → BufTy
  | .hbm, ⟨0, _⟩ => ⟨S32x128x8000, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S8000x32x128, .f32⟩
  | .hbm, ⟨7, _⟩ => ⟨S1x32x128, .f32⟩
  | .hbm, ⟨8, _⟩ => ⟨S32x128, .f32⟩
  | .hbm, ⟨9, _⟩ => ⟨S7999x32x128, .f32⟩
  | .hbm, ⟨10, _⟩ => ⟨S_, .f32⟩
  | .hbm, ⟨11, _⟩ => ⟨S7999x32x128, .f32⟩
  | .hbm, ⟨12, _⟩ => ⟨S_, .i32⟩
  | .hbm, ⟨13, _⟩ => ⟨S7999x32x128, .f32⟩
  | .hbm, ⟨14, _⟩ => ⟨S128, .f32⟩
  | .hbm, ⟨15, _⟩ => ⟨S_, .i32⟩
  | .hbm, ⟨16, _⟩ => ⟨S32x128, .f32⟩
  | .hbm, ⟨17, _⟩ => ⟨S7999x32x128, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x32x128, .f32⟩
  | .hbm, ⟨23, _⟩ => ⟨S32x128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S32x128, .f32⟩
  | .hbm, ⟨29, _⟩ => ⟨S32x128, .f32⟩
  | .hbm, ⟨30, _⟩ => ⟨S1x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S1x32x128, .f32⟩
  | .hbm, ⟨35, _⟩ => ⟨S_, .i32⟩
  | .hbm, ⟨36, _⟩ => ⟨S_, .i32⟩
  | .hbm, ⟨37, _⟩ => ⟨S7999x32x128, .f32⟩
  | .hbm, ⟨38, _⟩ => ⟨S_, .i32⟩
  | .hbm, ⟨39, _⟩ => ⟨S_, .i32⟩
  | .hbm, ⟨40, _⟩ => ⟨S32x128x1, .f32⟩
  | .hbm, ⟨41, _⟩ => ⟨S32x128x7999, .f32⟩
  | .hbm, ⟨42, _⟩ => ⟨S32x128x8000, .f32⟩
  | .hbm, ⟨43, _⟩ => ⟨S128, .f32⟩
  | .hbm, ⟨44, _⟩ => ⟨S128x1, .f32⟩
  | .hbm, ⟨45, _⟩ => ⟨S128, .f32⟩
  | .hbm, ⟨46, _⟩ => ⟨S128x1, .f32⟩
  | .hbm, ⟨47, _⟩ => ⟨S128, .f32⟩
  | .hbm, ⟨48, _⟩ => ⟨S128x1, .f32⟩
  | .hbm, ⟨49, _⟩ => ⟨S128x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S32x128x8000, .f32⟩
  | .hbm, ⟨54, _⟩ => ⟨S32x128x8000, .f32⟩
  | .hbm, ⟨55, _⟩ => ⟨S32x128x8000, .f32⟩
  | .hbm, ⟨56, _⟩ => ⟨S_, .f32⟩
  | .hbm, ⟨57, _⟩ => ⟨S32x128x8000, .f32⟩
  | .hbm, ⟨58, _⟩ => ⟨S32x128x8000, .f32⟩
  | .hbm, ⟨59, _⟩ => ⟨S1x128x1, .f32⟩
  | .hbm, ⟨60, _⟩ => ⟨S32x128x8000, .f32⟩
  | .hbm, ⟨61, _⟩ => ⟨S32x128x8000, .f32⟩
  | .hbm, ⟨62, _⟩ => ⟨S32x128x8000, .f32⟩
  | .hbm, ⟨63, _⟩ => ⟨S32x128x8000, .f32⟩
  | .hbm, ⟨64, _⟩ => ⟨S1x128x1, .f32⟩
  | .hbm, ⟨65, _⟩ => ⟨S32x128x8000, .f32⟩
  | .hbm, ⟨66, _⟩ => ⟨S32x128x8000, .f32⟩
  | .hbm, ⟨67, _⟩ => ⟨S1x128x1, .f32⟩
  | .hbm, ⟨68, _⟩ => ⟨S32x128x8000, .f32⟩
  | .hbm, ⟨69, _⟩ => ⟨S32x128x8000, .f32⟩
  | .hbm, ⟨70, _⟩ => ⟨S128x1, .f32⟩
  | .hbm, ⟨71, _⟩ => ⟨S1x128x1, .f32⟩
  | .hbm, ⟨72, _⟩ => ⟨S32x128x8000, .f32⟩
  | .hbm, ⟨73, _⟩ => ⟨S32x128x8000, .f32⟩
  | _, _ => ⟨S32x128x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_while0c_c_6 : Ref sig .tc := ⟨.hbm, 18, rfl⟩
abbrev main_while0c_v39 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v39 : Ref sig .tc := ⟨.hbm, 23, rfl⟩
abbrev main_while0b_cst_6 : Ref sig .tc := ⟨.hbm, 24, rfl⟩
abbrev main_while0b_v40 : Ref sig .tc := ⟨.hbm, 25, rfl⟩
abbrev main_while0b_v41 : Ref sig .tc := ⟨.hbm, 26, rfl⟩
abbrev main_while0b_v42 : Ref sig .tc := ⟨.hbm, 27, rfl⟩
abbrev main_while0b_v43 : Ref sig .tc := ⟨.hbm, 28, rfl⟩
abbrev main_while0b_v44 : Ref sig .tc := ⟨.hbm, 29, rfl⟩
abbrev main_while0b_v45 : Ref sig .tc := ⟨.hbm, 30, rfl⟩
abbrev main_while0b_v46 : Ref sig .tc := ⟨.hbm, 31, rfl⟩
abbrev main_while0b_v47 : Ref sig .tc := ⟨.hbm, 32, rfl⟩
abbrev main_while0b_v48 : Ref sig .tc := ⟨.hbm, 33, rfl⟩
abbrev main_while0b_call1_v0 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_v49 : Ref sig .tc := ⟨.hbm, 37, rfl⟩
abbrev main_while0b_c_7 : Ref sig .tc := ⟨.hbm, 38, rfl⟩
abbrev main_while0b_v50 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_0 : Ref sig .tc := ⟨.hbm, 50, rfl⟩
abbrev main_v17 : Ref sig .tc := ⟨.hbm, 51, rfl⟩
abbrev main_cst_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩

abbrev nD : Nat := 1
abbrev τ : Topo := Topo.v7x

variable {F : FTy → Type} [FloatOps F]

abbrev main_while0_count : Scf.Loop 32 := ⟨0#32, 7999#32, 1#32⟩
-- ==== Proof.KernelPieces.lean ====
/- What one grid point of the kernel stores, written as a recursion over the time chunks: the body is unrolled over two
   batch rows and 63 chunks (62 of 128 steps, one of 64), and every chunk computes the same function of the chunk's
   input block and of the last smoothed row of the chunk before. `pieces_eq` says that the stores the run of the body
   finds are exactly this recursion's. -/
module

public import proofs.«01_k».proof.Proof.Gen.KernelIdeal.Frame

@[expose] public section

set_option maxRecDepth 65536

noncomputable section

namespace Cert.KernelIdeal.Pcen

open Idealize.ShloMosaic Idealize.ShloMosaic.TcCoe Idealize.ShloMosaic.Tactic Cert.KernelIdeal.Gen

variable {F : FTy → Type} [FloatOps F]

/-- The operands of one grid point: the input block, the lower-triangular matrix, the powers column, and the rows
    alpha, delta, r and delta to the r. -/
structure Operands (F : FTy → Type) where
  x : Vec F S2x8000x128 .f32
  tri : Vec F S128x128 .f32
  pw : Vec F S128x1 .f32
  al : Vec F S1x128 .f32
  de : Vec F S1x128 .f32
  ex : Vec F S1x128 .f32
  dr : Vec F S1x128 .f32

/-- Chunk `u` of batch row `b` lies in the block. -/
theorem inb_full (b : ℕ) (hb : b < 2) (u : ℕ) (hu : u < 62) :
    ∀ a, (![b, 128 * u, 0] : Fin 3 → ℕ) a + S1x128x128.size a ≤ S2x8000x128.size a := by
  intro a
  match a with
  | ⟨0, _⟩ => show b + 1 ≤ 2; omega
  | ⟨1, _⟩ => show 128 * u + 128 ≤ 8000; omega
  | ⟨2, _⟩ => show 0 + 128 ≤ 128; omega

/-- The last chunk of batch row `b` lies in the block. -/
theorem inb_tail (b : ℕ) (hb : b < 2) :
    ∀ a, (![b, 7936, 0] : Fin 3 → ℕ) a + S1x64x128.size a ≤ S2x8000x128.size a := by
  intro a
  match a with
  | ⟨0, _⟩ => show b + 1 ≤ 2; omega
  | ⟨1, _⟩ => show 7936 + 64 ≤ 8000; omega
  | ⟨2, _⟩ => show 0 + 128 ≤ 128; omega

/-- The first row of batch row `b` lies in the block. -/
theorem inb_row (b : ℕ) (hb : b < 2) :
    ∀ a, (![b, 0, 0] : Fin 3 → ℕ) a + S1x1x128.size a ≤ S2x8000x128.size a := by
  intro a
  match a with
  | ⟨0, _⟩ => show b + 1 ≤ 2; omega
  | ⟨1, _⟩ => show 0 + 1 ≤ 8000; omega
  | ⟨2, _⟩ => show 0 + 128 ≤ 128; omega

/-- The input block of chunk `u` of batch row `b`, -/
def xFull (o : Operands F) (b : ℕ) (hb : b < 2) (u : ℕ) (hu : u < 62) : FVec F S128x128 .f32 :=
  shapeCast S128x128 (View.ld o.x (Rect.unit ![b, 128 * u, 0] ![1, 128, 128] (inb_full b hb u hu)))
    shapeCasts_S1x128x128_S128x128
/-- that of the last chunk, -/
def xTail (o : Operands F) (b : ℕ) (hb : b < 2) : FVec F S64x128 .f32 :=
  shapeCast S64x128 (View.ld o.x (Rect.unit ![b, 7936, 0] ![1, 64, 128] (inb_tail b hb))) shapeCasts_S1x64x128_S64x128
/-- and the first row. -/
def xRow (o : Operands F) (b : ℕ) (hb : b < 2) : FVec F S1x128 .f32 :=
  shapeCast S1x128 (View.ld o.x (Rect.unit ![b, 0, 0] ![1, 1, 128] (inb_row b hb))) shapeCasts_S1x1x128_S1x128

/-- The matrix as the body reads it (a reshape to its own shape), -/
def tri' (o : Operands F) : FVec F S128x128 .f32 := shapeCast S128x128 o.tri shapeCasts_S128x128_S128x128
/-- the powers column, -/
def pw' (o : Operands F) : FVec F S128x1 .f32 := shapeCast S128x1 o.pw shapeCasts_S128x1_S128x1
/-- and a parameter row. -/
def row' (v : Vec F S1x128 .f32) : FVec F S1x128 .f32 := shapeCast S1x128 v shapeCasts_S1x128_S1x128

/-- One full chunk of the smoother: the matrix times the chunk's inputs, plus the powers times the carried row. -/
def smooth (o : Operands F) (carry : FVec F S1x128 .f32) (xu : FVec F S128x128 .f32) : FVec F S128x128 .f32 :=
  addf (matmul dot_S128x128_S128x128_S128x128_1_0_0_1_n_n none (tri' o) xu (constant S128x128 .f32 0x00000000#32))
    (mulf (broadcastTo S128x128 (pw' o) broadcasts_S128x1_S128x128)
      (broadcastTo S128x128 carry broadcasts_S1x128_S128x128))

/-- The last chunk of the smoother: the same on the leading 64 rows and columns. -/
def smoothTail (o : Operands F) (carry : FVec F S1x128 .f32) (xu : FVec F S64x128 .f32) : FVec F S64x128 .f32 :=
  addf (matmul dot_S64x64_S64x128_S64x128_1_0_0_1_n_n none
      (extractStridedSlice S64x64 ![0, 0] (tri' o) slices_S128x128_o0_0_S64x64) xu
      (constant S64x128 .f32 0x00000000#32))
    (mulf (broadcastTo S64x128 (extractStridedSlice S64x1 ![0, 0] (pw' o) slices_S128x1_o0_0_S64x1)
        broadcasts_S64x1_S64x128)
      (broadcastTo S64x128 carry broadcasts_S1x128_S64x128))

/-- The negated exponent row. -/
def negAl (o : Operands F) : FVec F S1x128 .f32 :=
  subf (broadcast S1x128 (Scalar.ofBits .f32 0x00000000#32)) (row' o.al)

/-- What a full chunk stores, from its smoothed block `m` and its input block. -/
def emit (o : Operands F) (m xu : FVec F S128x128 .f32) : FVec F S1x128x128 .f32 :=
  shapeCast S1x128x128
    (subf (exp (mulf (broadcastTo S128x128 (row' o.ex) broadcasts_S1x128_S128x128)
        (log (addf (mulf xu (exp (mulf (broadcastTo S128x128 (negAl o) broadcasts_S1x128_S128x128)
            (log (addf (broadcast S128x128 (Scalar.ofBits .f32 0x358637BD#32)) m)))))
          (broadcastTo S128x128 (row' o.de) broadcasts_S1x128_S128x128)))))
      (broadcastTo S128x128 (row' o.dr) broadcasts_S1x128_S128x128))
    shapeCasts_S128x128_S1x128x128

/-- What the last chunk stores. -/
def emitTail (o : Operands F) (m xu : FVec F S64x128 .f32) : FVec F S1x64x128 .f32 :=
  shapeCast S1x64x128
    (subf (exp (mulf (broadcastTo S64x128 (row' o.ex) broadcasts_S1x128_S64x128)
        (log (addf (mulf xu (exp (mulf (broadcastTo S64x128 (negAl o) broadcasts_S1x128_S64x128)
            (log (addf (broadcast S64x128 (Scalar.ofBits .f32 0x358637BD#32)) m)))))
          (broadcastTo S64x128 (row' o.de) broadcasts_S1x128_S64x128)))))
      (broadcastTo S64x128 (row' o.dr) broadcasts_S1x128_S64x128))
    shapeCasts_S64x128_S1x64x128

/-- The row carried into chunk `u`: the first input row, then the last row of each smoothed chunk. -/
def carry (o : Operands F) (b : ℕ) (hb : b < 2) : (u : ℕ) → u ≤ 62 → FVec F S1x128 .f32
  | 0, _ => xRow o b hb
  | u + 1, h => extractStridedSlice S1x128 ![127, 0] (smooth o (carry o b hb u (Nat.le_of_succ_le h)) (xFull o b hb u h))
      slices_S128x128_o127_0_S1x128

/-- The smoothed block of chunk `u`. -/
def sm (o : Operands F) (b : ℕ) (hb : b < 2) (u : ℕ) (hu : u < 62) : FVec F S128x128 .f32 :=
  smooth o (carry o b hb u (Nat.le_of_lt hu)) (xFull o b hb u hu)
/-- The smoothed block of the last chunk. -/
def smTail (o : Operands F) (b : ℕ) (hb : b < 2) : FVec F S64x128 .f32 :=
  smoothTail o (carry o b hb 62 (Nat.le_refl _)) (xTail o b hb)

/-- The stores of the first `n` full chunks of batch row `b`, the last first. -/
def chunks (o : Operands F) (b : ℕ) (hb : b < 2) : (n : ℕ) → n ≤ 62 → List (View.Piece (Elt F) S2x8000x128 .f32)
  | 0, _ => []
  | n + 1, h => ⟨Rect.unit ![b, 128 * n, 0] ![1, 128, 128] (inb_full b hb n h),
      emit o (sm o b hb n h) (xFull o b hb n h)⟩ :: chunks o b hb n (Nat.le_of_succ_le h)

/-- All stores of one grid point, the last first. -/
def pieces (o : Operands F) : List (View.Piece (Elt F) S2x8000x128 .f32) :=
  ⟨Rect.unit ![1, 7936, 0] ![1, 64, 128] (inb_tail 1 (by decide)),
      emitTail o (smTail o 1 (by decide)) (xTail o 1 (by decide))⟩
    :: (chunks o 1 (by decide) 62 (Nat.le_refl _) ++
      ⟨Rect.unit ![0, 7936, 0] ![1, 64, 128] (inb_tail 0 (by decide)),
          emitTail o (smTail o 0 (by decide)) (xTail o 0 (by decide))⟩
        :: chunks o 0 (by decide) 62 (Nat.le_refl _))

/-- The stores the run of the body finds are the recursion's, at the operands read back from the staging buffers. -/
theorem pieces_eq (c : Dev nD) (i : grid0.Coords) (arg1 : Memref sig .tc .vmem S2x8000x128 .f32) (harg1 : arg1.IsWhole)
    (arg2 : Memref sig .tc .vmem S128x128 .f32) (harg2 : arg2.IsWhole) (arg3 : Memref sig .tc .vmem S128x1 .f32)
    (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32)
    (harg6 : arg6.IsWhole) (arg7 : Memref sig .tc .vmem S1x128 .f32) (harg7 : arg7.IsWhole)
    (arg8 : Memref sig .tc .vmem S2x8000x128 .f32) (harg8 : arg8.IsWhole)
    (x0 : Vec F S2x8000x128 .f32) (x1 : Vec F S128x128 .f32) (x2 : Vec F S128x1 .f32) (x3 x4 x5 x6 : Vec F S1x128 .f32) :
    (kernelRun0_A c i arg1 harg1 arg2 harg2 arg3 harg3 arg4 harg4 arg5 harg5 arg6 harg6 arg7 harg7 arg8 harg8
        x0 x1 x2 x3 x4 x5 x6).1
      = pieces ⟨arg1.view.read (Elt F) (harg1.unread x0),
          View.ld (arg2.view.read (Elt F) (harg2.unread x1)) (Rect.unit ![0, 0] ![128, 128] inb_S128x128_S128x128_0_0),
          View.ld (arg3.view.read (Elt F) (harg3.unread x2)) (Rect.unit ![0, 0] ![128, 1] inb_S128x1_S128x1_0_0),
          View.ld (arg4.view.read (Elt F) (harg4.unread x3)) (Rect.unit ![0, 0] ![1, 128] inb_S1x128_S1x128_0_0),
          View.ld (arg5.view.read (Elt F) (harg5.unread x4)) (Rect.unit ![0, 0] ![1, 128] inb_S1x128_S1x128_0_0),
          View.ld (arg6.view.read (Elt F) (harg6.unread x5)) (Rect.unit ![0, 0] ![1, 128] inb_S1x128_S1x128_0_0),
          View.ld (arg7.view.read (Elt F) (harg7.unread x6)) (Rect.unit ![0, 0] ![1, 128] inb_S1x128_S1x128_0_0)⟩ := by
  sl_kernel_rfl

end Cert.KernelIdeal.Pcen

end
-- ==== Proof.Smoother.lean ====
/- The mathematics of the certificate, on the extended reals, with no program in it: the first-order smoother, the
   equation that lets a chunk of it be computed by a lower-triangular matrix, and the two rewritings of the compression
   (`log e + log1p (m / e) = log (e + m)`, and a power as `exp (r * log y)`). -/
module

public import Idealize.ShloMosaic.PureOps.Ideal
public import Idealize.ShloMosaic.Lib.IdealHost

@[expose] public section

noncomputable section

namespace Cert.Pcen

open Idealize.ShloMosaic
open scoped BigOperators

/-! ## The smoother -/

/-- The first-order smoother of the sequence `x` with coefficient `S` and `A = 1 - S`: it starts at `x 0`. -/
def ema (S A : ℝ) (x : ℕ → EReal) : ℕ → EReal
  | 0 => x 0
  | t + 1 => (A : EReal) * ema S A x t + (S : EReal) * x (t + 1)

/-- Multiplication by a nonnegative real distributes over every sum of extended reals. -/
theorem coe_mul_add {a : ℝ} (ha : 0 ≤ a) (x y : EReal) : (a : EReal) * (x + y) = (a : EReal) * x + (a : EReal) * y :=
  EReal.left_distrib_of_nonneg_of_ne_top (by exact_mod_cast ha) (EReal.coe_ne_top a) x y

/-- Multiplication by a nonnegative real, as an additive map. -/
def coeMul (a : ℝ) (ha : 0 ≤ a) : EReal →+ EReal where
  toFun x := (a : EReal) * x
  map_zero' := mul_zero _
  map_add' := coe_mul_add ha

/-- It distributes over finite sums. -/
theorem coe_mul_sum {a : ℝ} (ha : 0 ≤ a) {ι : Type} (s : Finset ι) (f : ι → EReal) :
    (a : EReal) * ∑ k ∈ s, f k = ∑ k ∈ s, (a : EReal) * f k :=
  map_sum (coeMul a ha) f s

/-- Two nonnegative real multiples of one extended real add up to the multiple by the sum. -/
theorem coe_add_mul {a b : ℝ} (ha : 0 ≤ a) (hb : 0 ≤ b) (x : EReal) :
    (a : EReal) * x + (b : EReal) * x = ((a + b : ℝ) : EReal) * x := by
  rw [EReal.coe_add, EReal.right_distrib_of_nonneg (by exact_mod_cast ha) (by exact_mod_cast hb)]

/-- One chunk of the smoother, position `i`: the weighted inputs up to `i` and the carried value. `c` is what is carried
    in: one smoothing step from it gives the smoother's value at the chunk's first position. -/
theorem chunk_range {S A : ℝ} (hS : 0 ≤ S) (hA : 0 ≤ A) (x : ℕ → EReal) (lo : ℕ) (c : EReal)
    (hc : (A : EReal) * c + (S : EReal) * x lo = ema S A x lo) (i : ℕ) :
    (∑ k ∈ Finset.range (i + 1), ((S * A ^ (i - k) : ℝ) : EReal) * x (lo + k)) + ((A ^ (i + 1) : ℝ) : EReal) * c
      = ema S A x (lo + i) := by
  induction i with
  | zero => simpa [add_comm] using hc
  | succ i ih =>
    have hx : ema S A x (lo + (i + 1)) = (A : EReal) * ema S A x (lo + i) + (S : EReal) * x (lo + (i + 1)) := rfl
    rw [hx, ← ih, coe_mul_add hA, coe_mul_sum hA, Finset.sum_range_succ _ (i + 1)]
    have e1 : ∀ k ∈ Finset.range (i + 1), ((S * A ^ (i + 1 - k) : ℝ) : EReal) * x (lo + k)
        = (A : EReal) * (((S * A ^ (i - k) : ℝ) : EReal) * x (lo + k)) := by
      intro k hk
      have hk' : k ≤ i := by have := Finset.mem_range.mp hk; omega
      rw [← mul_assoc, ← EReal.coe_mul]
      congr 2
      rw [show i + 1 - k = (i - k) + 1 by omega, pow_succ]; ring
    have e2 : ((A ^ (i + 1 + 1) : ℝ) : EReal) * c = (A : EReal) * (((A ^ (i + 1) : ℝ) : EReal) * c) := by
      rw [← mul_assoc, ← EReal.coe_mul]
      congr 2
      rw [pow_succ _ (i + 1)]; ring
    rw [Finset.sum_congr rfl e1, e2, Nat.sub_self, pow_zero, mul_one]
    abel

/-- The same with the lower-triangular row spelled over the whole chunk of `w` positions. -/
theorem chunk_row {S A : ℝ} (hS : 0 ≤ S) (hA : 0 ≤ A) (x : ℕ → EReal) (lo : ℕ) (c : EReal)
    (hc : (A : EReal) * c + (S : EReal) * x lo = ema S A x lo) (w : ℕ) (i : Fin w) :
    (∑ k : Fin w, (if k.val ≤ i.val then ((S * A ^ (i.val - k.val) : ℝ) : EReal) else 0) * x (lo + k.val))
        + ((A ^ (i.val + 1) : ℝ) : EReal) * c
      = ema S A x (lo + i.val) := by
  rw [← chunk_range hS hA x lo c hc i.val,
    Fin.sum_univ_eq_sum_range (fun k => (if k ≤ i.val then ((S * A ^ (i.val - k) : ℝ) : EReal) else 0) * x (lo + k)) w]
  congr 1
  rw [← Finset.sum_subset (Finset.range_mono (Nat.succ_le_of_lt i.isLt))]
  · refine Finset.sum_congr rfl fun k hk => ?_
    rw [if_pos (Nat.le_of_lt_succ (Finset.mem_range.mp hk))]
  · intro k _ hk
    rw [if_neg (fun h => hk (Finset.mem_range.mpr (Nat.lt_succ_of_le h))), zero_mul]

/-- What the first chunk carries in is the first input itself. -/
theorem carry_first {S A : ℝ} (hS : 0 ≤ S) (hA : 0 ≤ A) (h1 : A + S = 1) (x : ℕ → EReal) :
    (A : EReal) * x 0 + (S : EReal) * x 0 = ema S A x 0 := by
  rw [coe_add_mul hA hS, h1, EReal.coe_one, one_mul]; rfl

/-! ## The exponential table -/

/-- `exp (n * log A)` is the `n`-th power, for a nonnegative real `A` (zero included). -/
theorem exp_mul_log {A : ℝ} (hA : 0 ≤ A) (n : ℕ) :
    Ideal.exp (((n : ℝ) : EReal) * Ideal.log (A : EReal)) = ((A ^ n : ℝ) : EReal) := by
  rcases hA.eq_or_lt with h0 | hpos
  · subst h0
    rw [Ideal.log_coe, if_pos le_rfl]
    rcases Nat.eq_zero_or_pos n with rfl | hn
    · rw [Nat.cast_zero, EReal.coe_zero, zero_mul, pow_zero, ← EReal.coe_zero, Ideal.exp_coe, Real.exp_zero]
    · rw [EReal.coe_mul_bot_of_pos (by exact_mod_cast hn), Ideal.exp_bot, zero_pow (by omega), EReal.coe_zero]
  · rw [Ideal.log_coe, if_neg (not_le.mpr hpos), ← EReal.coe_mul, Ideal.exp_coe, ← Real.log_pow,
      Real.exp_log (pow_pos hpos n)]

/-- The exponential of an extended real that is at most zero is a real in `[0, 1]`. -/
theorem exp_of_nonpos {s : EReal} (hs : s ≤ 0) : ∃ S : ℝ, 0 ≤ S ∧ S ≤ 1 ∧ Ideal.exp s = (S : EReal) := by
  induction s with
  | bot => exact ⟨0, le_rfl, zero_le_one, rfl⟩
  | top => exact absurd hs (by simp)
  | coe r => exact ⟨Real.exp r, (Real.exp_pos r).le, Real.exp_le_one_iff.mpr (by exact_mod_cast hs), rfl⟩

/-- An exponential is never negative. -/
theorem exp_nonneg (x : EReal) : 0 ≤ Ideal.exp x := by
  induction x with
  | bot => exact le_rfl
  | top => exact le_top
  | coe r => rw [Ideal.exp_coe]; exact_mod_cast (Real.exp_pos r).le

/-! ## The compression -/

/-- `log e + log1p (m / e) = log (e + m)`, for a positive real `e` and every extended real `m`. -/
theorem log_add_log1p {e : ℝ} (he : 0 < e) (m : EReal) :
    Ideal.log (e : EReal) + Ideal.log1p (Ideal.div m (e : EReal)) = Ideal.log ((e : EReal) + m) := by
  rw [Ideal.div_coe he.ne', Ideal.log_coe, if_neg (not_le.mpr he), Ideal.log1p]
  have hi : 0 < 1 / e := by positivity
  induction m with
  | bot => rw [EReal.bot_mul_coe_of_pos hi, EReal.add_bot, EReal.add_bot, Ideal.log_bot, EReal.add_bot]
  | top =>
    rw [EReal.top_mul_coe_of_pos hi, EReal.coe_add_top, ← EReal.coe_one, EReal.coe_add_top, Ideal.log_top,
      EReal.coe_add_top]
  | coe r =>
    rw [← EReal.coe_mul, ← EReal.coe_one, ← EReal.coe_add, ← EReal.coe_add, Ideal.log_coe, Ideal.log_coe]
    have hr : e + r = e * (1 + r * (1 / e)) := by field_simp
    by_cases h : e + r ≤ 0
    · have h' : 1 + r * (1 / e) ≤ 0 := by
        by_contra hn
        have := mul_pos he (not_le.mp hn)
        rw [← hr] at this; exact absurd h (not_le.mpr this)
      rw [if_pos h, if_pos h', EReal.add_bot]
    · have h' : ¬ (1 + r * (1 / e) ≤ 0) := fun hn => h (by rw [hr]; exact mul_nonpos_of_nonneg_of_nonpos he.le hn)
      rw [if_neg h, if_neg h', ← EReal.coe_add, hr, Real.log_mul he.ne' (fun h0 => h' h0.le)]

/-- A power of a nonnegative base with a nonnegative exponent is `exp (r * log y)`, infinities and zeros included. -/
theorem exp_mul_log_eq_pow {y r : EReal} (hy : 0 ≤ y) (hr : 0 ≤ r) : Ideal.exp (r * Ideal.log y) = Ideal.pow y r := by
  induction y with
  | bot => exact absurd hy (by simp)
  | top =>
    rw [Ideal.log_top, Ideal.pow_top]
    rcases hr.eq_or_lt with h | h
    · rw [← h, zero_mul, if_neg (lt_irrefl _), if_pos rfl, ← EReal.coe_zero, Ideal.exp_coe, Real.exp_zero, EReal.coe_one]
    · rw [if_pos h, EReal.mul_top_of_pos h, Ideal.exp_top]
  | coe b =>
    have hb : 0 ≤ b := by exact_mod_cast hy
    rcases hb.eq_or_lt with h0 | hpos
    · subst h0
      rw [Ideal.log_coe, if_pos le_rfl]
      induction r with
      | bot => exact absurd hr (by simp)
      | top => rw [EReal.top_mul_bot, Ideal.exp_bot, Ideal.pow_coe_top]; norm_num
      | coe q =>
        have hq : 0 ≤ q := by exact_mod_cast hr
        rw [Ideal.pow_coe_coe]
        rcases hq.eq_or_lt with hq0 | hq0
        · subst hq0
          rw [EReal.coe_zero, zero_mul, ← EReal.coe_zero, Ideal.exp_coe, Real.exp_zero]
          exact congrArg _ (Real.rpow_zero 0).symm
        · rw [EReal.coe_mul_bot_of_pos hq0, Ideal.exp_bot, ← EReal.coe_zero]
          exact congrArg _ (Real.zero_rpow hq0.ne').symm
    · rw [Ideal.log_coe, if_neg (not_le.mpr hpos)]
      induction r with
      | bot => exact absurd hr (by simp)
      | top =>
        rw [Ideal.pow_coe_top, if_neg (not_lt.mpr hb)]
        rcases lt_trichotomy b 1 with h | h | h
        · rw [if_neg (not_lt.mpr h.le), if_neg h.ne, EReal.top_mul_coe_of_neg (Real.log_neg hpos h), Ideal.exp_bot]
        · subst h
          rw [Real.log_one, EReal.coe_zero, mul_zero, if_neg (lt_irrefl _), if_pos rfl, ← EReal.coe_zero, Ideal.exp_coe,
            Real.exp_zero, EReal.coe_one]
        · rw [if_pos h, EReal.top_mul_coe_of_pos (Real.log_pos h), Ideal.exp_top]
      | coe q =>
        rw [← EReal.coe_mul, Ideal.exp_coe, Ideal.pow_coe_coe, mul_comm]
        exact congrArg _ (Real.rpow_def_of_pos hpos q).symm

/-! ## The constants -/

/-- The small constant the programs add before the logarithm is a positive real. -/
theorem eps_pos : ∃ e : ℝ, 0 < e ∧ Ideal.ofBits .f32 0x358637BD#32 = (e : EReal) := by
  refine ⟨(2 ^ 23 + 407485 : ℕ) * (2 : ℝ) ^ (-43 : ℤ), by positivity, ?_⟩
  simp [Ideal.ofBits, Ideal.ieee]

/-! ## One output value -/

/-- The compressed value of the input `x` whose smoothed value is `m`, at the channel's log-parameters: the definition
    both programs are brought to. -/
def pcen (e : EReal) (al de ex x m : EReal) : EReal :=
  Ideal.pow (x * Ideal.exp (-(Ideal.exp al) * Ideal.log (e + m)) + Ideal.exp de) (Ideal.exp ex)
    - Ideal.pow (Ideal.exp de) (Ideal.exp ex)

/-- The kernel's spelling of it, for a nonnegative input. -/
theorem pcen_kernel (e al de ex x m : EReal) (hx : 0 ≤ x) :
    Ideal.exp (Ideal.exp ex * Ideal.log (x * Ideal.exp ((0 - Ideal.exp al) * Ideal.log (e + m)) + Ideal.exp de))
        - Ideal.exp (Ideal.exp ex * Ideal.log (Ideal.exp de))
      = pcen e al de ex x m := by
  unfold pcen
  rw [zero_sub, exp_mul_log_eq_pow (add_nonneg (mul_nonneg hx (exp_nonneg _)) (exp_nonneg _)) (exp_nonneg _),
    exp_mul_log_eq_pow (exp_nonneg _) (exp_nonneg _)]

/-- The reference's spelling of it. -/
theorem pcen_reference {e : ℝ} (he : 0 < e) (al de ex x m : EReal) :
    Ideal.pow (x * Ideal.exp (-(Ideal.exp al) * (Ideal.log (e : EReal) + Ideal.log1p (Ideal.div m (e : EReal))))
        + Ideal.exp de) (Ideal.exp ex) - Ideal.pow (Ideal.exp de) (Ideal.exp ex)
      = pcen (e : EReal) al de ex x m := by
  unfold pcen
  rw [log_add_log1p he]

end Cert.Pcen

end
-- ==== Proof.Spec.lean ====
/- The operator both programs compute, over the extended reals: per-channel energy normalisation of a batch of spectrograms,
   each channel's input smoothed over time by a first-order recursion and compressed by it. -/
module

public import proofs.«01_k».proof.Proof.Smoother
public import Idealize.ShloMosaic.Lib.ValueIdx

@[expose] public section

noncomputable section

namespace Cert.Pcen

open Idealize.ShloMosaic Idealize.ShloMosaic.ValueIdx

/-- The constant under the logarithm. -/
def eps : EReal := Ideal.ofBits .f32 0x358637BD#32

/-- The input of batch row `b`, channel `f` as a sequence over time (zero past the end). -/
def tseq (x : (⟨3, ![32, 128, 8000]⟩ : Shape).Idx → EReal) (b : Fin 32) (f : Fin 128) (t : ℕ) : EReal :=
  if h : t < 8000 then x (ix3 b f (⟨t, h⟩ : Fin 8000)) else 0

/-- THE OPERATOR at batch row `b`, channel `f`, time `t`. -/
def spec (S A : ℝ) (x : (⟨3, ![32, 128, 8000]⟩ : Shape).Idx → EReal) (al de ex : (⟨1, ![128]⟩ : Shape).Idx → EReal)
    (b : Fin 32) (f : Fin 128) (t : Fin 8000) : EReal :=
  pcen eps (al (ix1 f)) (de (ix1 f)) (ex (ix1 f)) (x (ix3 b f t)) (ema S A (tseq x b f) t.val)

/-- The whole result, as an array. -/
def specArr (S A : ℝ) (x : (⟨3, ![32, 128, 8000]⟩ : Shape).Idx → EReal) (al de ex : (⟨1, ![128]⟩ : Shape).Idx → EReal)
    (y : (⟨3, ![32, 128, 8000]⟩ : Shape).Idx) : EReal := spec S A x al de ex (y 0) (y 1) (y 2)

/-- The sequence at a time within the input. -/
theorem tseq_of_lt (x : (⟨3, ![32, 128, 8000]⟩ : Shape).Idx → EReal) (b : Fin 32) (f : Fin 128) (t : ℕ) (ht : t < 8000) :
    tseq x b f t = x (ix3 b f (⟨t, ht⟩ : Fin 8000)) := dif_pos ht

end Cert.Pcen

end
-- ==== Proof.KernelBlock.lean ====
/- What one grid point of the kernel leaves in its output block, at the ideal instance: the value at batch row `b`, time
   `t`, channel `f` is the compressed value of the input there, smoothed over all earlier times of the block's row. Every
   chunk is proved at once, by induction on the chunk with the carried row as the invariant. -/
module

public import proofs.«01_k».proof.Proof.KernelPieces
public import proofs.«01_k».proof.Proof.Spec
public import Idealize.ShloMosaic.Lib.ValueIdx
public import Idealize.ShloMosaic.Lib.MatmulPlain
public import Idealize.ShloMosaic.Lib.Pipeline.Value

@[expose] public section

noncomputable section

namespace Cert.KernelIdeal.Pcen

open Idealize.ShloMosaic Idealize.ShloMosaic.ValueIdx Cert.KernelIdeal.Gen Cert.Pcen
open scoped BigOperators

/-- What the staged operands hold: the table of weights, the powers, and the exponentials of the channel parameters. -/
structure Reads (o : Operands Ideal) (S A : ℝ) (al de ex : Fin 128 → EReal) : Prop where
  dr : ∀ f : Fin 128, o.dr (ix2 0 f) = Ideal.exp (Ideal.exp (ex f) * Ideal.log (Ideal.exp (de f)))
  tri : ∀ i k : Fin 128, o.tri (ix2 i k) = if k.val ≤ i.val then ((S * A ^ (i.val - k.val) : ℝ) : EReal) else 0
  pw : ∀ i : Fin 128, o.pw (ix2 i 0) = ((A ^ (i.val + 1) : ℝ) : EReal)
  al : ∀ f : Fin 128, o.al (ix2 0 f) = Ideal.exp (al f)
  de : ∀ f : Fin 128, o.de (ix2 0 f) = Ideal.exp (de f)
  ex : ∀ f : Fin 128, o.ex (ix2 0 f) = Ideal.exp (ex f)

/-- The input sequence of batch row `b`, channel `f`, over time (zero past the end). -/
def seq (o : Operands Ideal) (b : ℕ) (hb : b < 2) (f : Fin 128) (t : ℕ) : EReal :=
  if h : t < 8000 then o.x (ix3 (⟨b, hb⟩ : Fin 2) (⟨t, h⟩ : Fin 8000) f) else 0

variable (o : Operands Ideal)

/-! ## The loads -/

/-- Chunk `u`'s input block at row `i`, channel `f`. -/
theorem xFull_apply (b : ℕ) (hb : b < 2) (u : ℕ) (hu : u < 62) (i f : Fin 128) :
    xFull o b hb u hu (ix2 i f) = seq o b hb f (128 * u + i.val) := by
  have ht : 128 * u + i.val < 8000 := by have := i.isLt; omega
  unfold xFull seq
  rw [dif_pos ht, shapeCast_dropUnit_apply ![128, 128]]
  refine congrArg o.x (funext fun a => Fin.ext ?_)
  match a with
  | ⟨0, _⟩ => show b + 1 * 0 = b; omega
  | ⟨1, _⟩ => show 128 * u + 1 * i.val = 128 * u + i.val; omega
  | ⟨2, _⟩ => show 0 + 1 * f.val = f.val; omega

/-- The last chunk's. -/
theorem xTail_apply (b : ℕ) (hb : b < 2) (i : Fin 64) (f : Fin 128) :
    xTail o b hb (ix2 i f) = seq o b hb f (7936 + i.val) := by
  have ht : 7936 + i.val < 8000 := by have := i.isLt; omega
  unfold xTail seq
  rw [dif_pos ht, shapeCast_dropUnit_apply ![64, 128]]
  refine congrArg o.x (funext fun a => Fin.ext ?_)
  match a with
  | ⟨0, _⟩ => show b + 1 * 0 = b; omega
  | ⟨1, _⟩ => show 7936 + 1 * i.val = 7936 + i.val; omega
  | ⟨2, _⟩ => show 0 + 1 * f.val = f.val; omega

/-- The first row. -/
theorem xRow_apply (b : ℕ) (hb : b < 2) (f : Fin 128) : xRow o b hb (ix2 0 f) = seq o b hb f 0 := by
  unfold xRow seq
  rw [dif_pos (by decide), shapeCast_dropUnit_apply ![1, 128]]
  refine congrArg o.x (funext fun a => Fin.ext ?_)
  match a with
  | ⟨0, _⟩ => show b + 1 * 0 = b; omega
  | ⟨1, _⟩ => show 0 + 1 * 0 = 0; omega
  | ⟨2, _⟩ => show 0 + 1 * f.val = f.val; omega

/-- The body's reshapes to the same shape change nothing: of the matrix, -/
theorem tri'_eq : tri' o = o.tri := shapeCast_self _ _
/-- of the powers column, -/
theorem pw'_eq : pw' o = o.pw := shapeCast_self _ _
/-- of a parameter row. -/
theorem row'_eq (v : Vec Ideal S1x128 .f32) : row' v = v := shapeCast_self _ _

/-! ## Broadcasts at an index -/

/-- A channel row broadcast down a block of `n` rows. -/
theorem rowDown {n : ℕ} (v : FVec Ideal S1x128 .f32) (h : S1x128.Broadcasts ⟨2, ![n, 128]⟩) (i : Fin n) (f : Fin 128) :
    broadcastTo ⟨2, ![n, 128]⟩ v h (ix2 i f) = v (ix2 0 f) :=
  broadcastTo_apply v h (ix2 i f) (ix2 0 f) fun a => by
    match a with
    | ⟨0, _⟩ => rfl
    | ⟨1, _⟩ => rfl

/-- A column broadcast across the channels. -/
theorem colAcross (v : FVec Ideal S128x1 .f32) (i f : Fin 128) :
    broadcastTo S128x128 v broadcasts_S128x1_S128x128 (ix2 i f) = v (ix2 i 0) :=
  broadcastTo_apply v _ (ix2 i f) (ix2 i 0) fun a => by
    match a with
    | ⟨0, _⟩ => rfl
    | ⟨1, _⟩ => rfl

/-- The same for 64 rows. -/
theorem colAcross64 (v : FVec Ideal S64x1 .f32) (i : Fin 64) (f : Fin 128) :
    broadcastTo S64x128 v broadcasts_S64x1_S64x128 (ix2 i f) = v (ix2 i 0) :=
  broadcastTo_apply v _ (ix2 i f) (ix2 i 0) fun a => by
    match a with
    | ⟨0, _⟩ => rfl
    | ⟨1, _⟩ => rfl

/-! ## One chunk -/

/-- A full chunk of the smoother at a position: the weighted sum of its inputs and the carried value. -/
theorem smooth_apply (c : FVec Ideal S1x128 .f32) (xu : FVec Ideal S128x128 .f32) (i f : Fin 128) :
    smooth o c xu (ix2 i f) = (∑ k : Fin 128, o.tri (ix2 i k) * xu (ix2 k f)) + o.pw (ix2 i 0) * c (ix2 0 f) := by
  unfold smooth
  rw [addf_apply, mulf_apply, colAcross, rowDown, tri'_eq, pw'_eq]
  refine congrArg (· + o.pw (ix2 i 0) * c (ix2 0 f)) ?_
  refine (Ideal.matmul_plain_apply (M := 128) (K := 128) (N := 128) none o.tri xu
    (constant S128x128 .f32 0x00000000#32) i f).trans ?_
  rw [constant_apply, Ideal.ofBits_zero_f32, zero_add]

/-- The last chunk at a position, likewise. -/
theorem smoothTail_apply (c : FVec Ideal S1x128 .f32) (xu : FVec Ideal S64x128 .f32) (i : Fin 64) (f : Fin 128) :
    smoothTail o c xu (ix2 i f)
      = (∑ k : Fin 64, o.tri (ix2 (i.castLE (by decide)) (k.castLE (by decide))) * xu (ix2 k f))
        + o.pw (ix2 (i.castLE (by decide)) 0) * c (ix2 0 f) := by
  unfold smoothTail
  rw [addf_apply, mulf_apply, colAcross64, rowDown, tri'_eq, pw'_eq,
    extractStridedSlice_apply ![0, 0] o.pw slices_S128x1_o0_0_S64x1 (ix2 i 0) (ix2 (i.castLE (by decide)) 0) (fun a => by
      match a with
      | ⟨0, _⟩ => exact (Nat.zero_add _).symm
      | ⟨1, _⟩ => rfl)]
  refine congrArg (· + o.pw (ix2 (i.castLE (by decide)) 0) * c (ix2 0 f)) ?_
  refine (Ideal.matmul_plain_apply (M := 64) (K := 64) (N := 128) none
    (extractStridedSlice S64x64 ![0, 0] o.tri slices_S128x128_o0_0_S64x64) xu
    (constant S64x128 .f32 0x00000000#32) i f).trans ?_
  rw [constant_apply, Ideal.ofBits_zero_f32, zero_add]
  refine Finset.sum_congr rfl fun k _ => congrArg (· * xu (ix2 k f)) ?_
  exact extractStridedSlice_apply ![0, 0] o.tri slices_S128x128_o0_0_S64x64 (ix2 i k)
    (ix2 (i.castLE (by decide)) (k.castLE (by decide))) (fun a => by
      match a with
      | ⟨0, _⟩ => exact (Nat.zero_add _).symm
      | ⟨1, _⟩ => exact (Nat.zero_add _).symm)

variable {o} {S A : ℝ} {al de ex : Fin 128 → EReal} (hr : Reads o S A al de ex) (hS : 0 ≤ S) (hA : 0 ≤ A) (h1 : A + S = 1)

include hr hS hA in
/-- A full chunk continues the smoother, if what is carried in does. -/
theorem smooth_ema (b : ℕ) (hb : b < 2) (u : ℕ) (hu : u < 62) (c : FVec Ideal S1x128 .f32) (f : Fin 128)
    (hc : (A : EReal) * c (ix2 0 f) + (S : EReal) * seq o b hb f (128 * u) = ema S A (seq o b hb f) (128 * u)) (i : Fin 128) :
    smooth o c (xFull o b hb u hu) (ix2 i f) = ema S A (seq o b hb f) (128 * u + i.val) := by
  rw [smooth_apply, hr.pw, ← chunk_row hS hA (seq o b hb f) (128 * u) (c (ix2 0 f)) hc 128 i]
  refine congrArg (· + _) (Finset.sum_congr rfl fun k _ => ?_)
  rw [hr.tri, xFull_apply]

include hr hS hA h1 in
/-- THE INVARIANT: one smoothing step from what is carried into chunk `u` is the smoother at the chunk's first position. -/
theorem carry_ema (b : ℕ) (hb : b < 2) (f : Fin 128) : ∀ (u : ℕ) (hu : u ≤ 62),
    (A : EReal) * carry o b hb u hu (ix2 0 f) + (S : EReal) * seq o b hb f (128 * u) = ema S A (seq o b hb f) (128 * u)
  | 0, _ => by
    show (A : EReal) * xRow o b hb (ix2 0 f) + _ = _
    rw [xRow_apply]
    exact carry_first hS hA h1 _
  | u + 1, hu => by
    have ih := carry_ema b hb f u (Nat.le_of_succ_le hu)
    have e : carry o b hb (u + 1) hu (ix2 0 f) = ema S A (seq o b hb f) (128 * u + 127) := by
      refine (extractStridedSlice_apply ![127, 0] _ slices_S128x128_o127_0_S1x128 (ix2 0 f) (ix2 (127 : Fin 128) f) (fun a => by
        match a with
        | ⟨0, _⟩ => rfl
        | ⟨1, _⟩ => exact (Nat.zero_add _).symm)).trans ?_
      exact smooth_ema hr hS hA b hb u hu _ f ih 127
    rw [e]; rfl

include hr hS hA h1 in
/-- Chunk `u`'s smoothed block. -/
theorem sm_apply (b : ℕ) (hb : b < 2) (u : ℕ) (hu : u < 62) (i f : Fin 128) :
    sm o b hb u hu (ix2 i f) = ema S A (seq o b hb f) (128 * u + i.val) :=
  smooth_ema hr hS hA b hb u hu _ f (carry_ema hr hS hA h1 b hb f u (Nat.le_of_lt hu)) i

include hr hS hA h1 in
/-- The last chunk's smoothed block. -/
theorem smTail_apply (b : ℕ) (hb : b < 2) (i : Fin 64) (f : Fin 128) :
    smTail o b hb (ix2 i f) = ema S A (seq o b hb f) (7936 + i.val) := by
  unfold smTail
  rw [smoothTail_apply, hr.pw]
  refine Eq.trans ?_ (chunk_row hS hA (seq o b hb f) (128 * 62) (carry o b hb 62 (Nat.le_refl _) (ix2 0 f))
    (carry_ema hr hS hA h1 b hb f 62 (Nat.le_refl _)) 64 i)
  refine congrArg (· + _) (Finset.sum_congr rfl fun k _ => ?_)
  rw [hr.tri, xTail_apply]
  rfl

/-! ## What a chunk stores -/

include hr in
/-- The negated alpha row. -/
theorem negAl_apply (f : Fin 128) : negAl o (ix2 0 f) = 0 - Ideal.exp (al f) := by
  unfold negAl
  rw [subf_apply, row'_eq, hr.al]
  exact congrArg (· - Ideal.exp (al f)) Ideal.ofBits_zero_f32

include hr in
/-- A full chunk stores the compressed values of its inputs. -/
theorem emit_apply (m xu : FVec Ideal S128x128 .f32) (i f : Fin 128) (hx : 0 ≤ xu (ix2 i f)) :
    emit o m xu (ix3 0 i f) = pcen eps (al f) (de f) (ex f) (xu (ix2 i f)) (m (ix2 i f)) := by
  rw [← pcen_kernel _ _ _ _ _ _ hx]
  unfold emit
  rw [shapeCast_addUnit_apply ![128, 128], show (fun a : Fin 2 => (ix3 (0 : Fin 1) i f) a.succ) = ix2 i f from
    funext fun a => by match a with | ⟨0, _⟩ => rfl | ⟨1, _⟩ => rfl]
  rw [subf_apply, rowDown, row'_eq, row'_eq, row'_eq, hr.dr]
  show Ideal.exp (broadcastTo S128x128 o.ex _ (ix2 i f) * Ideal.log (xu (ix2 i f)
    * Ideal.exp (broadcastTo S128x128 (negAl o) _ (ix2 i f) * Ideal.log (eps + m (ix2 i f)))
    + broadcastTo S128x128 o.de _ (ix2 i f))) - _ = _
  rw [rowDown, rowDown, rowDown, hr.ex, hr.de, negAl_apply hr]

include hr in
/-- The last chunk likewise. -/
theorem emitTail_apply (m xu : FVec Ideal S64x128 .f32) (i : Fin 64) (f : Fin 128) (hx : 0 ≤ xu (ix2 i f)) :
    emitTail o m xu (ix3 0 i f) = pcen eps (al f) (de f) (ex f) (xu (ix2 i f)) (m (ix2 i f)) := by
  rw [← pcen_kernel _ _ _ _ _ _ hx]
  unfold emitTail
  rw [shapeCast_addUnit_apply ![64, 128], show (fun a : Fin 2 => (ix3 (0 : Fin 1) i f) a.succ) = ix2 i f from
    funext fun a => by match a with | ⟨0, _⟩ => rfl | ⟨1, _⟩ => rfl]
  rw [subf_apply, rowDown, row'_eq, row'_eq, row'_eq, hr.dr]
  show Ideal.exp (broadcastTo S64x128 o.ex _ (ix2 i f) * Ideal.log (xu (ix2 i f)
    * Ideal.exp (broadcastTo S64x128 (negAl o) _ (ix2 i f) * Ideal.log (eps + m (ix2 i f)))
    + broadcastTo S64x128 o.de _ (ix2 i f))) - _ = _
  rw [rowDown, rowDown, rowDown, hr.ex, hr.de, negAl_apply hr]

/-! ## The block -/

/-- What the block holds at `(b, t, f)`: the compressed value of the input there. -/
def blockVal (o : Operands Ideal) (S A : ℝ) (al de ex : Fin 128 → EReal) (y : S2x8000x128.Idx) : EReal :=
  pcen eps (al (y 2)) (de (y 2)) (ex (y 2)) (o.x y) (ema S A (seq o (y 0).val (y 0).isLt (y 2)) (y 1).val)

/-- The sequence at a time of the block is the input. -/
theorem seq_of_lt (b : ℕ) (hb : b < 2) (f : Fin 128) (t : ℕ) (ht : t < 8000) :
    seq o b hb f t = o.x (ix3 (⟨b, hb⟩ : Fin 2) (⟨t, ht⟩ : Fin 8000) f) := dif_pos ht

/-- A nonnegative block has nonnegative sequences. -/
theorem seq_nonneg (hx : ∀ y, 0 ≤ o.x y) (b : ℕ) (hb : b < 2) (f : Fin 128) (t : ℕ) : 0 ≤ seq o b hb f t := by
  unfold seq
  split
  · exact hx _
  · exact le_rfl

/-- The block's value at a position, through its sequence. -/
theorem blockVal_ix3 (b : ℕ) (hb : b < 2) (t : ℕ) (ht : t < 8000) (f : Fin 128) :
    blockVal o S A al de ex (ix3 (⟨b, hb⟩ : Fin 2) (⟨t, ht⟩ : Fin 8000) f)
      = pcen eps (al f) (de f) (ex f) (seq o b hb f t) (ema S A (seq o b hb f) t) := by
  rw [seq_of_lt b hb f t ht]; rfl

include hr hS hA h1 in
/-- A full chunk's store at a position is the block's value there. -/
theorem full_val (hx : ∀ y, 0 ≤ o.x y) (b : ℕ) (hb : b < 2) (n : ℕ) (hn : n < 62) (i f : Fin 128)
    (ht : 128 * n + i.val < 8000) :
    emit o (sm o b hb n hn) (xFull o b hb n hn) (ix3 0 i f)
      = blockVal o S A al de ex (ix3 (⟨b, hb⟩ : Fin 2) (⟨128 * n + i.val, ht⟩ : Fin 8000) f) := by
  have h := xFull_apply o b hb n hn i f
  rw [emit_apply hr _ _ i f (h.symm ▸ seq_nonneg hx b hb f _), sm_apply hr hS hA h1, h, blockVal_ix3]

include hr hS hA h1 in
/-- The last chunk's store at a position is the block's value there. -/
theorem last_val (hx : ∀ y, 0 ≤ o.x y) (b : ℕ) (hb : b < 2) (i : Fin 64) (f : Fin 128) (ht : 7936 + i.val < 8000) :
    emitTail o (smTail o b hb) (xTail o b hb) (ix3 0 i f)
      = blockVal o S A al de ex (ix3 (⟨b, hb⟩ : Fin 2) (⟨7936 + i.val, ht⟩ : Fin 8000) f) := by
  have h := xTail_apply o b hb i f
  rw [emitTail_apply hr _ _ i f (h.symm ▸ seq_nonneg hx b hb f _), smTail_apply hr hS hA h1, h, blockVal_ix3]

include hr hS hA h1 in
/-- Every store of the first `n` full chunks of row `b` writes the block's values. -/
theorem chunks_val (hx : ∀ y, 0 ≤ o.x y) (b : ℕ) (hb : b < 2) : ∀ (n : ℕ) (hn : n ≤ 62),
    ∀ p ∈ chunks o b hb n hn, ∀ j : p.1.shape.Idx, p.2 j = blockVal o S A al de ex (p.1.emb j)
  | 0, _ => fun p hp => absurd hp List.not_mem_nil
  | n + 1, hn => fun p hp => by
    rcases List.mem_cons.mp hp with rfl | hp
    · intro (j : S1x128x128.Idx)
      have ht : 128 * n + (j 1).val < 8000 := by have : (j 1).val < 128 := (j 1).isLt; omega
      have hj : j = ix3 0 (j 1) (j 2) := by
        funext a
        match a with
        | ⟨0, _⟩ => exact Subsingleton.elim (α := Fin 1) _ _
        | ⟨1, _⟩ => rfl
        | ⟨2, _⟩ => rfl
      have he : (Rect.unit (s := S2x8000x128) ![b, 128 * n, 0] ![1, 128, 128] (inb_full b hb n hn)).emb j
          = ix3 (⟨b, hb⟩ : Fin 2) (⟨128 * n + (j 1).val, ht⟩ : Fin 8000) (j 2) := by
        funext a
        apply Fin.ext
        match a with
        | ⟨0, _⟩ => show b + 1 * (j 0).val = b; have : (j 0).val < 1 := (j 0).isLt; omega
        | ⟨1, _⟩ => show 128 * n + 1 * (j 1).val = 128 * n + (j 1).val; omega
        | ⟨2, _⟩ => show 0 + 1 * (j 2).val = (j 2).val; omega
      show emit o (sm o b hb n hn) (xFull o b hb n hn) j = blockVal o S A al de ex _
      refine Eq.trans ?_ (congrArg (blockVal o S A al de ex) he).symm
      refine (congrArg (emit o (sm o b hb n hn) (xFull o b hb n hn)) hj).trans ?_
      exact full_val hr hS hA h1 hx b hb n hn (j 1) (j 2) ht
    · exact chunks_val hx b hb n (Nat.le_of_succ_le hn) p hp

include hr hS hA h1 in
/-- The last chunk's store of row `b` writes the block's values. -/
theorem tail_val (hx : ∀ y, 0 ≤ o.x y) (b : ℕ) (hb : b < 2) (j : S1x64x128.Idx) :
    emitTail o (smTail o b hb) (xTail o b hb) j
      = blockVal o S A al de ex ((Rect.unit (s := S2x8000x128) ![b, 7936, 0] ![1, 64, 128] (inb_tail b hb)).emb j) := by
  have ht : 7936 + (j 1).val < 8000 := by have : (j 1).val < 64 := (j 1).isLt; omega
  have hj : j = ix3 0 (j 1) (j 2) := by
    funext a
    match a with
    | ⟨0, _⟩ => exact Subsingleton.elim (α := Fin 1) _ _
    | ⟨1, _⟩ => rfl
    | ⟨2, _⟩ => rfl
  have he : (Rect.unit (s := S2x8000x128) ![b, 7936, 0] ![1, 64, 128] (inb_tail b hb)).emb j
      = ix3 (⟨b, hb⟩ : Fin 2) (⟨7936 + (j 1).val, ht⟩ : Fin 8000) (j 2) := by
    funext a
    apply Fin.ext
    match a with
    | ⟨0, _⟩ => show b + 1 * (j 0).val = b; have : (j 0).val < 1 := (j 0).isLt; omega
    | ⟨1, _⟩ => show 7936 + 1 * (j 1).val = 7936 + (j 1).val; omega
    | ⟨2, _⟩ => show 0 + 1 * (j 2).val = (j 2).val; omega
  refine Eq.trans ?_ (congrArg (blockVal o S A al de ex) he).symm
  refine (congrArg (emitTail o (smTail o b hb) (xTail o b hb)) hj).trans ?_
  exact last_val hr hS hA h1 hx b hb (j 1) (j 2) ht

include hr hS hA h1 in
/-- Every store of the grid point writes the block's values. -/
theorem pieces_val (hx : ∀ y, 0 ≤ o.x y) :
    ∀ p ∈ pieces o, ∀ j : p.1.shape.Idx, p.2 j = blockVal o S A al de ex (p.1.emb j) := by
  intro p hp
  unfold pieces at hp
  rcases List.mem_cons.mp hp with rfl | hp
  · exact tail_val hr hS hA h1 hx 1 (by decide)
  rcases List.mem_append.mp hp with hp | hp
  · exact chunks_val hr hS hA h1 hx 1 (by decide) 62 (Nat.le_refl _) p hp
  rcases List.mem_cons.mp hp with rfl | hp
  · exact tail_val hr hS hA h1 hx 0 (by decide)
  · exact chunks_val hr hS hA h1 hx 0 (by decide) 62 (Nat.le_refl _) p hp

end Cert.KernelIdeal.Pcen

end
-- ==== Proof.KernelArray.lean ====
/- From one grid point to the whole output array: point `t` covers the batch rows `2t` and `2t + 1`, so what the points
   write back is one function of the arrays the region finds; the host then transposes it. -/
module

public import proofs.«01_k».proof.Proof.KernelBlock
public import Idealize.ShloMosaic.Lib.StableHlo.RunRead

@[expose] public section

noncomputable section

namespace Cert.KernelIdeal.Pcen

open Idealize.ShloMosaic Idealize.ShloMosaic.ValueIdx Idealize.ShloMosaic.TcCoe Idealize.SL.Sem
open Cert.KernelIdeal.Gen Cert.Pcen

/-! ## The windows' blocks -/

/-- Where point `t`'s input block lies: batch row block `t`. -/
theorem index0 : ∀ t : Fin cfg0.N, win0_0.index t (0 : Fin 3) = t.val ∧ win0_0.index t (1 : Fin 3) = 0
    ∧ win0_0.index t (2 : Fin 3) = 0 := (by decide +kernel : ∀ t : Fin grid0.N, _)
/-- The output block lies at the same place. -/
theorem index7 : ∀ t : Fin cfg0.N, win0_7.index t (0 : Fin 3) = t.val ∧ win0_7.index t (1 : Fin 3) = 0
    ∧ win0_7.index t (2 : Fin 3) = 0 := (by decide +kernel : ∀ t : Fin grid0.N, _)
/-- The other windows are their whole arrays. -/
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

/-- The batch row of the array that row `b` of point `t`'s block is. -/
def rowOf (t : Fin cfg0.N) (b : Fin 2) : Fin 32 :=
  ⟨2 * t.val + b.val, by have h : t.val < 16 := N_0 ▸ t.isLt; have := b.isLt; omega⟩

/-- An index of point `t`'s input block, placed in the array. -/
theorem emb0 (t : Fin cfg0.N) (j : S2x8000x128.Idx) :
    ((cfg0.win 0).blk t).view.emb j = ix3 (rowOf t (j 0)) (j 1) (j 2) := by
  obtain ⟨e0, e1, e2⟩ := index0 t
  funext a; apply Fin.ext
  match a with
  | ⟨0, _⟩ => show win0_0.index t (0 : Fin 3) * 2 + 1 * (j 0).val = 2 * t.val + (j 0).val; omega
  | ⟨1, _⟩ => show win0_0.index t (1 : Fin 3) * 8000 + 1 * (j 1).val = (j 1).val; omega
  | ⟨2, _⟩ => show win0_0.index t (2 : Fin 3) * 128 + 1 * (j 2).val = (j 2).val; omega

/-- An index of point `t`'s output block, placed in the array. -/
theorem emb7 (t : Fin cfg0.N) (j : S2x8000x128.Idx) :
    ((cfg0.win 7).blk t).view.emb j = ix3 (rowOf t (j 0)) (j 1) (j 2) := by
  obtain ⟨e0, e1, e2⟩ := index7 t
  funext a; apply Fin.ext
  match a with
  | ⟨0, _⟩ => show win0_7.index t (0 : Fin 3) * 2 + 1 * (j 0).val = 2 * t.val + (j 0).val; omega
  | ⟨1, _⟩ => show win0_7.index t (1 : Fin 3) * 8000 + 1 * (j 1).val = (j 1).val; omega
  | ⟨2, _⟩ => show win0_7.index t (2 : Fin 3) * 128 + 1 * (j 2).val = (j 2).val; omega

variable (m : (ℓ : Loc nD τ sig) → Buf (Elt Ideal) ℓ) (ρ : Dev nD → PrngReg)

/-- Point `t`'s input block at an index. -/
theorem iblk0_apply (c : Dev nD) (t : Fin cfg0.N) (j : S2x8000x128.Idx) :
    iblk m c 0 t j = V m c main_v0 (ix3 (rowOf t (j 0)) (j 1) (j 2)) := by
  exact congrArg (V m c main_v0) (emb0 t j)

/-- The table of weights is staged whole, -/
theorem iblk1_eq (c : Dev nD) (t : Fin cfg0.N) : iblk m c 1 t = V m c main_v20 := by
  funext j
  show V m c main_v20 (((cfg0.win 1).blk t).view.emb j) = V m c main_v20 j
  obtain ⟨e0, e1⟩ := index1 t
  refine congrArg (V m c main_v20) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- the powers, -/
theorem iblk2_eq (c : Dev nD) (t : Fin cfg0.N) : iblk m c 2 t = V m c main_v27 := by
  funext j
  show V m c main_v27 (((cfg0.win 2).blk t).view.emb j) = V m c main_v27 j
  obtain ⟨e0, e1⟩ := index2 t
  refine congrArg (V m c main_v27) (funext fun a => Fin.ext ?_)
  match a with
  | ⟨0, _⟩ => show win0_2.index t (0 : Fin 2) * 128 + 1 * (j 0).val = (j 0).val; omega
  | ⟨1, _⟩ => show win0_2.index t (1 : Fin 2) * 1 + 1 * (j 1).val = (j 1).val; omega

/-- and the four channel rows. -/
theorem iblk3_eq (c : Dev nD) (t : Fin cfg0.N) : iblk m c 3 t = V m c main_v29 := by
  funext j
  show V m c main_v29 (((cfg0.win 3).blk t).view.emb j) = V m c main_v29 j
  obtain ⟨e0, e1⟩ := index3 t
  refine congrArg (V m c main_v29) (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem iblk4_eq (c : Dev nD) (t : Fin cfg0.N) : iblk m c 4 t = V m c main_v31 := by
  funext j
  show V m c main_v31 (((cfg0.win 4).blk t).view.emb j) = V m c main_v31 j
  obtain ⟨e0, e1⟩ := index4 t
  refine congrArg (V m c main_v31) (funext fun a => Fin.ext ?_)
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk5_eq (c : Dev nD) (t : Fin cfg0.N) : iblk m c 5 t = V m c main_v33 := by
  funext j
  show V m c main_v33 (((cfg0.win 5).blk t).view.emb j) = V m c main_v33 j
  obtain ⟨e0, e1⟩ := index5 t
  refine congrArg (V m c main_v33) (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

theorem iblk6_eq (c : Dev nD) (t : Fin cfg0.N) : iblk m c 6 t = V m c main_v36 := by
  funext j
  show V m c main_v36 (((cfg0.win 6).blk t).view.emb j) = V m c main_v36 j
  obtain ⟨e0, e1⟩ := index6 t
  refine congrArg (V m c main_v36) (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- The operands as point `t` finds them. -/
def opnds (c : Dev nD) (t : Fin cfg0.N) : Operands Ideal :=
  ⟨iblk m c 0 t, V m c main_v20, V m c main_v27, V m c main_v29, V m c main_v31, V m c main_v33, V m c main_v36⟩

variable {S A : ℝ} {al de ex : Fin 128 → EReal}

/-- On any whole staging buffers the body leaves the block's values in the output's. -/
theorem out_eq (c : Dev nD) (i : grid0.Coords) (arg1 : Memref sig .tc .vmem S2x8000x128 .f32) (harg1 : arg1.IsWhole)
    (arg2 : Memref sig .tc .vmem S128x128 .f32) (harg2 : arg2.IsWhole) (arg3 : Memref sig .tc .vmem S128x1 .f32)
    (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32)
    (harg6 : arg6.IsWhole) (arg7 : Memref sig .tc .vmem S1x128 .f32) (harg7 : arg7.IsWhole)
    (arg8 : Memref sig .tc .vmem S2x8000x128 .f32) (harg8 : arg8.IsWhole) (x0 : Vec Ideal S2x8000x128 .f32)
    (x1 : Vec Ideal S128x128 .f32) (x2 : Vec Ideal S128x1 .f32) (x3 x4 x5 x6 : Vec Ideal S1x128 .f32)
    (hr : Reads ⟨x0, x1, x2, x3, x4, x5, x6⟩ S A al de ex) (hS : 0 ≤ S) (hA : 0 ≤ A) (h1 : A + S = 1)
    (hx : ∀ y, (0 : EReal) ≤ x0 y) :
    out0_A_7 c i arg1 harg1 arg2 harg2 arg3 harg3 arg4 harg4 arg5 harg5 arg6 harg6 arg7 harg7 arg8 harg8 x0 x1 x2 x3 x4 x5 x6
      = blockVal ⟨x0, x1, x2, x3, x4, x5, x6⟩ S A al de ex := by
  have hz : (![0, 0] : Fin 2 → ℕ) = fun _ => 0 := funext fun a => by fin_cases a <;> rfl
  have hp := pieces_eq c i arg1 harg1 arg2 harg2 arg3 harg3 arg4 harg4 arg5 harg5 arg6 harg6 arg7 harg7 arg8 harg8
    x0 x1 x2 x3 x4 x5 x6
  rw [harg1.read_unread, harg2.read_unread, harg3.read_unread, harg4.read_unread, harg5.read_unread, harg6.read_unread,
    harg7.read_unread, show View.ld x1 (Rect.unit ![0, 0] ![128, 128] inb_S128x128_S128x128_0_0) = x1 from
      View.ld_unit_zero hz _ _, show View.ld x2 (Rect.unit ![0, 0] ![128, 1] inb_S128x1_S128x1_0_0) = x2 from
      View.ld_unit_zero hz _ _, show View.ld x3 (Rect.unit ![0, 0] ![1, 128] inb_S1x128_S1x128_0_0) = x3 from
      View.ld_unit_zero hz _ _, show View.ld x4 (Rect.unit ![0, 0] ![1, 128] inb_S1x128_S1x128_0_0) = x4 from
      View.ld_unit_zero hz _ _, show View.ld x5 (Rect.unit ![0, 0] ![1, 128] inb_S1x128_S1x128_0_0) = x5 from
      View.ld_unit_zero hz _ _, show View.ld x6 (Rect.unit ![0, 0] ![1, 128] inb_S1x128_S1x128_0_0) = x6 from
      View.ld_unit_zero hz _ _] at hp
  funext y
  have hcov := cover0_A_7 c i arg1 harg1 arg2 harg2 arg3 harg3 arg4 harg4 arg5 harg5 arg6 harg6 arg7 harg7 arg8 harg8
    x0 x1 x2 x3 x4 x5 x6 y
  unfold out0_A_7
  rw [View.read_writes_junk_eq_canon, hp]
  rw [hp] at hcov
  exact View.canon_apply_of_pieces _ _ (pieces_val hr hS hA h1 hx) y hcov

/-- Point `t` leaves the block's values in the output's staging buffer. -/
theorem outsAt0_eq (c : Dev nD) (t : Fin cfg0.N) (hr : Reads (opnds m c t) S A al de ex) (hS : 0 ≤ S) (hA : 0 ≤ A)
    (h1 : A + S = 1) (hx : ∀ y : S32x8000x128.Idx, (0 : EReal) ≤ V m c main_v0 y) :
    outsAt0 m c t = blockVal (opnds m c t) S A al de ex := by
  unfold outsAt0
  rw [iblk1_eq, iblk2_eq, iblk3_eq, iblk4_eq, iblk5_eq, iblk6_eq]
  refine out_eq c _ _ _ _ _ _ _ _ _ _ _ _ _ _ _ _ _ _ _ _ _ _ _ _ hr hS hA h1 fun y => ?_
  rw [iblk0_apply]
  exact hx _

/-! ## The array after the region, and the host's transpose -/

/-- What the region finds: the input with time before channel, and the operands of the smoother and the compression. -/
structure Entry (c : Dev nD) (S A : ℝ) (x : S32x128x8000.Idx → EReal) (al de ex : S128.Idx → EReal) : Prop where
  x : ∀ b t f, V m c main_v0 (ix3 b t f) = x (ix3 b f t)
  reads : ∀ t, Reads (opnds m c t) S A (fun f => al (ix1 f)) (fun f => de (ix1 f)) (fun f => ex (ix1 f))

variable {m} {x : S32x128x8000.Idx → EReal} {al de ex : S128.Idx → EReal}

/-- The sequence of a block's row is the input's. -/
theorem seq_eq {c : Dev nD} (he : Entry m c S A x al de ex) (t : Fin cfg0.N) (b : Fin 2) (f : Fin 128) :
    seq (opnds m c t) b.val b.isLt f = tseq x (rowOf t b) f := by
  funext k
  unfold seq tseq
  split
  · exact (iblk0_apply m c t _).trans (he.x _ _ _)
  · rfl

/-- The output array after the region: the operator with time before channel. -/
def arrOut (S A : ℝ) (x : S32x128x8000.Idx → EReal) (al de ex : S128.Idx → EReal) (y : S32x8000x128.Idx) : EReal :=
  spec S A x al de ex (y 0) (y 2) (y 1)

/-- What point `t` writes back is its block of that array. -/
theorem flushed_eq {c : Dev nD} (he : Entry m c S A x al de ex) (hS : 0 ≤ S) (hA : 0 ≤ A) (h1 : A + S = 1)
    (hx : ∀ y, 0 ≤ x y) (t : Fin cfg0.N) :
    (dats m 0 c).flushed 7 t = ((cfg0.win 7).blk t).view.read (Elt Ideal) (arrOut S A x al de ex) := by
  have hv : ∀ y : S32x8000x128.Idx, (0 : EReal) ≤ V m c main_v0 y := fun y => by
    exact (eq_ix3 y).symm ▸ (he.x (y 0) (y 1) (y 2)).symm ▸ hx _
  have ho := outsAt0_eq m c t (he.reads t) hS hA h1 hv
  funext (j : S2x8000x128.Idx)
  show (dats m 0 c).after 7 t j = arrOut S A x al de ex (((cfg0.win 7).blk t).view.emb j)
  rw [after0_7, ho, emb7]
  show pcen eps (al (ix1 (j 2))) (de (ix1 (j 2))) (ex (ix1 (j 2))) (iblk m c 0 t j)
      (ema S A (seq (opnds m c t) (j 0).val (j 0).isLt (j 2)) (j 1).val)
    = pcen eps (al (ix1 (j 2))) (de (ix1 (j 2))) (ex (ix1 (j 2))) (x (ix3 (rowOf t (j 0)) (j 2) (j 1)))
      (ema S A (tseq x (rowOf t (j 0)) (j 2)) (j 1).val)
  rw [← seq_eq he t (j 0) (j 2)]
  exact congrArg (pcen _ _ _ _ · _) ((iblk0_apply m c t j).trans (he.x _ _ _))

/-- Every index of the output array is in some point's block. -/
theorem covered (i : S32x8000x128.Idx) :
    ∃ t : Fin cfg0.N, (cfg0.win 7).flush t = true ∧ i ∈ ((cfg0.win 7).blk t).view.set := by
  have hi : (i 0).val < 32 := (i 0).isLt
  let t : Fin cfg0.N := ⟨(i 0).val / 2, by show _ < grid0.N; rw [N_0]; omega⟩
  refine ⟨t, flush0_7 t, ?_⟩
  have h := ((cfg0.win 7).blk t).view.emb_mem_set
    (ix3 (⟨(i 0).val % 2, Nat.mod_lt _ (by decide)⟩ : Fin 2) (i 1) (i 2) : S2x8000x128.Idx)
  rw [emb7] at h
  have e : (ix3 (rowOf t ⟨(i 0).val % 2, Nat.mod_lt _ (by decide)⟩) (i 1) (i 2) : S32x8000x128.Idx) = i := by
    funext a; apply Fin.ext
    match a with
    | ⟨0, _⟩ => show 2 * ((i 0).val / 2) + (i 0).val % 2 = (i 0).val; omega
    | ⟨1, _⟩ => rfl
    | ⟨2, _⟩ => rfl
  exact e ▸ h

/-- The output array after the region. -/
theorem final_eq {c : Dev nD} (he : Entry m c S A x al de ex) (hS : 0 ≤ S) (hA : 0 ≤ A) (h1 : A + S = 1)
    (hx : ∀ y, 0 ≤ x y) : (dats m 0 c).arrAt 7 cfg0.N = arrOut S A x al de ex :=
  (dats m 0 c).arrAt_eq_of_cover 7 (arrOut S A x al de ex) (fun t _ => flushed_eq he hS hA h1 hx t) covered

/-- The result after the host's transpose: the operator. -/
theorem result_eq {c : Dev nD} (he : Entry m c S A x al de ex) (hS : 0 ≤ S) (hA : 0 ≤ A) (h1 : A + S = 1)
    (hx : ∀ y, 0 ≤ x y) :
    Pipeline.afterTail₀ cfgs (dats m) 0 (V0 m) [hostOps1] c main_v38 = specArr S A x al de ex := by
  have hw : Pipeline.withArrays spec0 c (V0 m c) (fun w => (dats m 0 c).arrAt w cfg0.N) (Proc.devRef .tc main_v37)
      = arrOut S A x al de ex :=
    (Pipeline.withArrays_arr spec0 winFacts0.arr_inj c (V0 m c) _ 7).trans (final_eq he hS hA h1 hx)
  unfold Pipeline.afterTail₀
  simp only [hostOps1, List.flatten_cons, List.flatten_nil, List.append_nil]
  after_reads_simp
  refine (congrArg (transpose S32x128x8000 [0, 2, 1] · transposes_S32x8000x128_S32x128x8000_0_2_1) hw).trans ?_
  funext y
  exact transpose_apply [0, 2, 1] (arrOut S A x al de ex) transposes_S32x8000x128_S32x128x8000_0_2_1 y
    (ix3 (y 0) (y 2) (y 1)) (fun a => by
      match a with
      | ⟨0, _⟩ => rfl
      | ⟨1, _⟩ => rfl
      | ⟨2, _⟩ => rfl)

end Cert.KernelIdeal.Pcen

end
-- ==== Proof.KernelHost.lean ====
/- What the host's operations before the region compute: the input with time before channel, the smoother's table of weights
   and powers, and the rows of channel parameters. -/
module

public import proofs.«01_k».proof.Proof.KernelArray
public import Idealize.ShloMosaic.Lib.IdealHost

@[expose] public section

noncomputable section

namespace Cert.KernelIdeal.Pcen

open Idealize.ShloMosaic Idealize.ShloMosaic.ValueIdx Idealize.ShloMosaic.TcCoe Idealize.SL.Sem
open Cert.KernelIdeal.Gen Cert.Pcen

variable {F : FTy → Type} [FloatOps F] (m : (ℓ : Loc nD τ sig) → Buf (Elt F) ℓ)

/-- The smoothing coefficient the host takes: the first channel's. -/
def coeff (s : FVec F S128 .f32) : FVec F S_ .f32 :=
  shapeCast S_ (extractStridedSlice S1 ![0] (Host.exp s) slices_S128_S1_0) shapeCasts_S1_S_
/-- The logarithm of one minus it. -/
def logRest (s : FVec F S128 .f32) : FVec F S_ .f32 := Host.log (subf (constant S_ .f32 0x3F800000#32) (coeff s))
/-- The difference of row and column, as a float. -/
def diff : FVec F S128x128 .f32 :=
  sitofp .f32 (subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))
/-- The table of weights. -/
def triV (s : FVec F S128 .f32) : FVec F S128x128 .f32 :=
  select (cmpf .oge (diff (F := F)) (broadcastInDim S128x128 ![] bcast_S_S128x128 (constant S_ .f32 0x00000000#32)))
    (mulf (broadcastInDim S128x128 ![] bcast_S_S128x128 (coeff s))
      (Host.exp (mulf (diff (F := F)) (broadcastInDim S128x128 ![] bcast_S_S128x128 (logRest s)))))
    (broadcastInDim S128x128 ![] bcast_S_S128x128 (constant S_ .f32 0x00000000#32))
/-- The column of powers. -/
def pwV (s : FVec F S128 .f32) : FVec F S128x1 .f32 :=
  broadcastInDim S128x1 ![0] bcast_S128_S128x1_0 (Host.exp (mulf
    (sitofp .f32 (addi (iotaInDim S128 32 0) (broadcastInDim S128 ![] bcast_S_S128 (constantI S_ 32 1#32))))
    (broadcastInDim S128 ![] bcast_S_S128 (logRest s))))
/-- A row of exponentials of a channel parameter. -/
def expRow (p : FVec F S128 .f32) : FVec F S1x128 .f32 := broadcastInDim S1x128 ![1] bcast_S128_S1x128_1 (Host.exp p)

/-- The region finds the input transposed, -/
theorem V_v0 (c : Dev nD) : V m c main_v0
    = transpose S32x8000x128 [0, 2, 1] (m ((c : Thread nD τ).loc main_arg0)) transposes_S32x128x8000_S32x8000x128_0_2_1 := by
  simp only [V, V0, hostOps0, hostOps0_1, hostOps0_2, List.flatten_cons, List.flatten_nil, List.append_nil, List.cons_append,
    List.nil_append]
  after_reads_simp
/-- the table of weights, -/
theorem V_v20 (c : Dev nD) : V m c main_v20 = triV (m ((c : Thread nD τ).loc main_arg1)) := by
  simp only [V, V0, hostOps0, hostOps0_1, hostOps0_2, List.flatten_cons, List.flatten_nil, List.append_nil, List.cons_append,
    List.nil_append]
  after_reads_simp
  simp only [StableHlo.TRef.ofBuf, StableHlo.TRef.toBuf, cast_eq, id]
  rfl
/-- the column of powers, -/
theorem V_v27 (c : Dev nD) : V m c main_v27 = pwV (m ((c : Thread nD τ).loc main_arg1)) := by
  simp only [V, V0, hostOps0, hostOps0_1, hostOps0_2, List.flatten_cons, List.flatten_nil, List.append_nil, List.cons_append,
    List.nil_append]
  after_reads_simp
  rfl
/-- and the rows. -/
theorem V_v29 (c : Dev nD) : V m c main_v29 = expRow (m ((c : Thread nD τ).loc main_arg2)) := by
  simp only [V, V0, hostOps0, hostOps0_1, hostOps0_2, List.flatten_cons, List.flatten_nil, List.append_nil, List.cons_append,
    List.nil_append]
  after_reads_simp
  rfl
theorem V_v31 (c : Dev nD) : V m c main_v31 = expRow (m ((c : Thread nD τ).loc main_arg3)) := by
  simp only [V, V0, hostOps0, hostOps0_1, hostOps0_2, List.flatten_cons, List.flatten_nil, List.append_nil, List.cons_append,
    List.nil_append]
  after_reads_simp
  rfl
theorem V_v33 (c : Dev nD) : V m c main_v33 = expRow (m ((c : Thread nD τ).loc main_arg4)) := by
  simp only [V, V0, hostOps0, hostOps0_1, hostOps0_2, List.flatten_cons, List.flatten_nil, List.append_nil, List.cons_append,
    List.nil_append]
  after_reads_simp
  rfl
theorem V_v36 (c : Dev nD) : V m c main_v36 = Host.exp (mulf (expRow (m ((c : Thread nD τ).loc main_arg4)))
    (Host.log (expRow (m ((c : Thread nD τ).loc main_arg3))))) := by
  simp only [V, V0, hostOps0, hostOps0_1, hostOps0_2, List.flatten_cons, List.flatten_nil, List.append_nil, List.cons_append,
    List.nil_append]
  after_reads_simp
  rfl

end Cert.KernelIdeal.Pcen

end
-- ==== Proof.KernelEntry.lean ====
/- The arrays the host hands the kernel, at the ideal instance: the weights are the smoother's coefficient times powers of one
   minus it, on and below the diagonal; so the region is entered as the block's proof asks (`Entry`). -/
module

public import proofs.«01_k».proof.Proof.KernelHost

@[expose] public section

noncomputable section

namespace Cert.KernelIdeal.Pcen

open Idealize.ShloMosaic Idealize.ShloMosaic.ValueIdx Idealize.ShloMosaic.TcCoe Idealize.SL.Sem
open Cert.KernelIdeal.Gen Cert.Pcen

/-! ## Integers as floats -/

/-- A small natural number as a 32-bit word is itself. -/
theorem toInt_of_lt (i : ℕ) (h : i < 2000) : (BitVec.ofNat 32 i).toInt = (i : ℤ) := by
  rw [BitVec.toInt_eq_toNat_bmod, BitVec.toNat_ofNat, Nat.mod_eq_of_lt (by omega)]; exact Int.bmod_eq_of_le (by omega) (by omega)

/-- The difference of two small ones. -/
theorem toInt_sub_small (i k : ℕ) (hi : i < 1000) (hk : k < 1000) :
    (BitVec.ofNat 32 i - BitVec.ofNat 32 k).toInt = (i : ℤ) - (k : ℤ) := by
  rw [BitVec.toInt_sub, toInt_of_lt i (by omega), toInt_of_lt k (by omega)]; exact Int.bmod_eq_of_le (by omega) (by omega)

/-- A small one plus one. -/
theorem toInt_succ_small (i : ℕ) (hi : i < 1000) : (BitVec.ofNat 32 i + 1#32).toInt = ((i + 1 : ℕ) : ℤ) := by
  rw [show (1#32 : BitVec 32) = BitVec.ofNat 32 1 from rfl, ← BitVec.ofNat_add]
  exact toInt_of_lt (i + 1) (by omega)

/-! ## The coefficient -/

variable {S A : ℝ} {s : S128.Idx → EReal}

/-- The coefficient is the exponential of the first channel's. -/
theorem coeff_apply (s : S128.Idx → EReal) : coeff (F := Ideal) s ix0 = Ideal.exp (s (ix1 0)) := by
  unfold coeff
  rw [shapeCast_dropUnit_apply ![]]
  refine (extractStridedSlice_apply ![0] _ slices_S128_S1_0 (Fin.cons (⟨0, Nat.zero_lt_one⟩ : Fin 1) ix0) (ix1 0) (fun a => by
    match a with
    | ⟨0, _⟩ => rfl)).trans ?_
  rfl

/-- The logarithm of one minus it. -/
theorem logRest_apply (hs : Ideal.exp (s (ix1 0)) = (S : EReal)) (h1 : A + S = 1) :
    logRest (F := Ideal) s ix0 = Ideal.log (A : EReal) := by
  have e : (1 : EReal) - (S : EReal) = (A : EReal) := by
    rw [← EReal.coe_one, ← EReal.coe_sub]; exact congrArg _ (by linarith)
  show Ideal.log (Ideal.ofBits .f32 0x3F800000#32 - coeff (F := Ideal) s ix0) = _
  rw [coeff_apply, hs, Ideal.ofBits_one_f32, e]

/-! ## The tables -/

/-- Row minus column. -/
theorem diff_apply (i k : Fin 128) : diff (F := Ideal) (ix2 i k) = ((((i.val : ℤ) - (k.val : ℤ) : ℤ) : ℝ) : EReal) := by
  have e : (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) (ix2 i k)
      = BitVec.ofNat 32 i.val - BitVec.ofNat 32 k.val := rfl
  unfold diff
  rw [sitofp_apply, e]
  show (((BitVec.ofNat 32 i.val - BitVec.ofNat 32 k.val).toInt : ℝ) : EReal) = _
  rw [toInt_sub_small _ _ (by have := i.isLt; omega) (by have := k.isLt; omega)]

/-- The table of weights. -/
theorem triV_apply (hs : Ideal.exp (s (ix1 0)) = (S : EReal)) (hA : 0 ≤ A) (h1 : A + S = 1) (i k : Fin 128) :
    triV (F := Ideal) s (ix2 i k) = if k.val ≤ i.val then ((S * A ^ (i.val - k.val) : ℝ) : EReal) else 0 := by
  unfold triV
  rw [select_apply, cmpf_apply, mulf_apply, broadcastInDim_scalar_apply, broadcastInDim_scalar_apply, coeff_apply, hs]
  show (if Ideal.cmp .oge (diff (F := Ideal) (ix2 i k)) (Ideal.ofBits .f32 0x00000000#32) = 1#1 then
      (S : EReal) * Ideal.exp (diff (F := Ideal) (ix2 i k) * broadcastInDim S128x128 ![] bcast_S_S128x128 (logRest (F := Ideal) s) (ix2 i k))
    else Ideal.ofBits .f32 0x00000000#32) = _
  rw [broadcastInDim_scalar_apply, logRest_apply hs h1, Ideal.ofBits_zero_f32, diff_apply]
  have hc : Ideal.cmp .oge ((((i.val : ℤ) - (k.val : ℤ) : ℤ) : ℝ) : EReal) 0 = BitVec.ofBool (decide ((0 : EReal) ≤ ((((i.val : ℤ) - (k.val : ℤ) : ℤ) : ℝ) : EReal))) := rfl
  rw [hc]
  by_cases h : k.val ≤ i.val
  · have e : (((i.val : ℤ) - (k.val : ℤ) : ℤ) : ℝ) = ((i.val - k.val : ℕ) : ℝ) := by
      rw [← Int.cast_natCast (R := ℝ) (i.val - k.val)]; congr 1; omega
    have h0 : (0 : EReal) ≤ ((((i.val : ℤ) - (k.val : ℤ) : ℤ) : ℝ) : EReal) := by
      rw [e]; exact_mod_cast Nat.cast_nonneg (α := ℝ) _
    rw [decide_eq_true h0, if_pos (show BitVec.ofBool true = 1#1 from rfl), if_pos h, e, exp_mul_log hA, ← EReal.coe_mul]
  · have h0 : ¬ (0 : EReal) ≤ ((((i.val : ℤ) - (k.val : ℤ) : ℤ) : ℝ) : EReal) := by
      intro hh
      have : (0 : ℝ) ≤ (((i.val : ℤ) - (k.val : ℤ) : ℤ) : ℝ) := by exact_mod_cast hh
      have : (0 : ℤ) ≤ (i.val : ℤ) - (k.val : ℤ) := by exact_mod_cast this
      omega
    rw [decide_eq_false h0, if_neg (by decide), if_neg h]

/-- The column of powers. -/
theorem pwV_apply (hs : Ideal.exp (s (ix1 0)) = (S : EReal)) (hA : 0 ≤ A) (h1 : A + S = 1) (i : Fin 128) :
    pwV (F := Ideal) s (ix2 i 0) = ((A ^ (i.val + 1) : ℝ) : EReal) := by
  have hb : broadcastInDim S128 ![] bcast_S_S128 (logRest (F := Ideal) s) (ix1 i) = Ideal.log (A : EReal) := by
    rw [broadcastInDim_scalar_apply, logRest_apply hs h1]
  unfold pwV
  refine (broadcastInDim_apply ![0] bcast_S128_S128x1_0 _ (ix2 i 0) (ix1 i) (fun a => by
    match a with
    | ⟨0, _⟩ => rfl)).trans ?_
  show Ideal.exp ((((BitVec.ofNat 32 i.val + 1#32).toInt : ℝ) : EReal)
    * broadcastInDim S128 ![] bcast_S_S128 (logRest (F := Ideal) s) (ix1 i)) = _
  rw [hb, toInt_succ_small _ (by have := i.isLt; omega), Int.cast_natCast, exp_mul_log hA]

/-- A row of exponentials. -/
theorem expRow_apply (p : S128.Idx → EReal) (f : Fin 128) : expRow (F := Ideal) p (ix2 0 f) = Ideal.exp (p (ix1 f)) := by
  unfold expRow
  exact (broadcastInDim_apply ![1] bcast_S128_S1x128_1 _ (ix2 0 f) (ix1 f) (fun a => by
    match a with
    | ⟨0, _⟩ => rfl)).trans rfl

/-! ## The entry -/

variable (m : (ℓ : Loc nD τ sig) → Buf (Elt Ideal) ℓ)

/-- The region finds the input with time before channel. -/
theorem entry_x (c : Dev nD) (x : S32x128x8000.Idx → EReal) (hx : m ((c : Thread nD τ).loc main_arg0) = x)
    (b : Fin 32) (t : Fin 8000) (f : Fin 128) : V m c main_v0 (ix3 b t f) = x (ix3 b f t) := by
  rw [V_v0, hx]
  exact transpose_apply [0, 2, 1] x transposes_S32x128x8000_S32x8000x128_0_2_1 (ix3 b t f) (ix3 b f t) (fun a => by
    match a with
    | ⟨0, _⟩ => rfl
    | ⟨1, _⟩ => rfl
    | ⟨2, _⟩ => rfl)

/-- It finds the operands at the smoother's values. -/
theorem entry_reads (c : Dev nD) (s al de ex : S128.Idx → EReal) (hs1 : m ((c : Thread nD τ).loc main_arg1) = s)
    (hal : m ((c : Thread nD τ).loc main_arg2) = al) (hde : m ((c : Thread nD τ).loc main_arg3) = de)
    (hex : m ((c : Thread nD τ).loc main_arg4) = ex)
    (hs : Ideal.exp (s (ix1 0)) = (S : EReal)) (hA : 0 ≤ A) (h1 : A + S = 1) (t : Fin cfg0.N) :
    Reads (opnds m c t) S A (fun f => al (ix1 f)) (fun f => de (ix1 f)) (fun f => ex (ix1 f)) := by
  unfold opnds
  rw [V_v20, V_v27, V_v29, V_v31, V_v33, V_v36, hs1, hal, hde, hex]
  exact
    { tri := triV_apply hs hA h1
      pw := pwV_apply hs hA h1
      al := expRow_apply al
      de := expRow_apply de
      ex := expRow_apply ex
      dr := fun f => congrArg₂ (fun a b : EReal => Ideal.exp (a * Ideal.log b)) (expRow_apply ex f) (expRow_apply de f) }

/-- The region is entered as the block's proof asks. -/
theorem entry (c : Dev nD) (x : S32x128x8000.Idx → EReal) (s al de ex : S128.Idx → EReal)
    (hx : m ((c : Thread nD τ).loc main_arg0) = x) (hs1 : m ((c : Thread nD τ).loc main_arg1) = s)
    (hal : m ((c : Thread nD τ).loc main_arg2) = al) (hde : m ((c : Thread nD τ).loc main_arg3) = de)
    (hex : m ((c : Thread nD τ).loc main_arg4) = ex)
    (hs : Ideal.exp (s (ix1 0)) = (S : EReal)) (hA : 0 ≤ A) (h1 : A + S = 1) : Entry m c S A x al de ex :=
  ⟨entry_x m c x hx, entry_reads m c s al de ex hs1 hal hde hex hs hA h1⟩

end Cert.KernelIdeal.Pcen

end
-- ==== Proof.ReferenceLoop.lean ====
/- The reference's loop over time, at the ideal instance: after `k` trips the running value is the smoother at time `k`, and the
   rows stored so far are the smoother at times 1, …, `k`. -/
module

public import proofs.«01_k».proof.Proof.Spec
public import proofs.«01_k».proof.Proof.Gen.ReferenceIdeal.Run
public import Idealize.ShloMosaic.Lib.DynamicIndex
public import Idealize.ShloMosaic.Lib.WordCmp
public import Idealize.ShloMosaic.Lib.IdealHost
public import Idealize.ShloMosaic.Lib.Pipeline.Value

@[expose] public section

noncomputable section

namespace Cert.ReferenceIdeal.Pcen

open Idealize.ShloMosaic Idealize.ShloMosaic.ValueIdx Idealize.ShloMosaic.TcCoe Idealize.SL.Sem
open Cert.ReferenceIdeal.Gen Cert.ReferenceIdeal.Value Cert.Pcen

/-! ## One trip on arrays -/

variable {S A : ℝ}

/-- Row `k` of the time-major input, as the trip slices it out. -/
theorem row_apply (X : S7999x32x128.Idx → EReal) (st : Fin 3 → Int) (k : ℕ) (hk : k < 7999) (h0 : st 0 = (k : Int)) (h1 : st 1 = 0)
    (h2 : st 2 = 0) (b : Fin 32) (f : Fin 128) :
    shapeCast S32x128 (Host.dynamicSlice S1x32x128 X st sliceFits_S7999x32x128_S1x32x128) shapeCasts_S1x32x128_S32x128 (ix2 b f)
      = X (ix3 (⟨k, hk⟩ : Fin 7999) b f) := by
  have hs : S7999x32x128.Slices ![k, 0, 0] S1x32x128 := ⟨rfl, fun a => by
    match a with
    | ⟨0, _⟩ => show k + 1 ≤ 7999; omega
    | ⟨1, _⟩ => show 0 + 32 ≤ 32; omega
    | ⟨2, _⟩ => show 0 + 128 ≤ 128; omega⟩
  rw [Host.dynamicSlice_eq_extractStridedSlice S1x32x128 X st ![k, 0, 0] sliceFits_S7999x32x128_S1x32x128 hs (fun a => by
    match a with
    | ⟨0, _⟩ => exact h0
    | ⟨1, _⟩ => exact h1
    | ⟨2, _⟩ => exact h2)]
  refine (shapeCast_dropUnit_apply ![32, 128] _ shapeCasts_S1x32x128_S32x128 (ix2 b f)).trans ?_
  exact extractStridedSlice_apply ![k, 0, 0] X hs (Fin.cons ⟨0, Nat.one_pos⟩ (ix2 b f)) (ix3 (⟨k, hk⟩ : Fin 7999) b f) (fun a => by
    match a with
    | ⟨0, _⟩ => rfl
    | ⟨1, _⟩ => exact (Nat.zero_add _).symm
    | ⟨2, _⟩ => exact (Nat.zero_add _).symm)

/-- A row of coefficients, broadcast over the batch. -/
theorem spread_apply (w : S128.Idx → EReal) (b : Fin 32) (f : Fin 128) :
    broadcastInDim S32x128 ![0, 1] bcast_S1x128_S32x128_0_1 (broadcastInDim S1x128 ![1] bcast_S128_S1x128_1 w) (ix2 b f)
      = w (ix1 f) := by
  refine (broadcastInDim_apply ![0, 1] bcast_S1x128_S32x128_0_1 _ (ix2 b f) (ix2 0 f) (fun a => by
    match a with
    | ⟨0, _⟩ => rfl
    | ⟨1, _⟩ => rfl)).trans ?_
  exact broadcastInDim_apply ![1] bcast_S128_S1x128_1 w (ix2 0 f) (ix1 f) (fun a => by
    match a with
    | ⟨0, _⟩ => rfl)

/-- One minus the coefficient. -/
theorem rest_apply (w : S128.Idx → EReal) (f : Fin 128) (hw : w (ix1 f) = (S : EReal)) (h1 : A + S = 1) :
    subf (broadcastInDim S128 ![] bcast_S_S128 (constant (F := Ideal) S_ .f32 0x3F800000#32)) w (ix1 f) = (A : EReal) := by
  show broadcastInDim S128 ![] bcast_S_S128 (constant (F := Ideal) S_ .f32 0x3F800000#32) (ix1 f) - w (ix1 f) = _
  rw [broadcastInDim_scalar_apply, hw]
  show Ideal.ofBits .f32 0x3F800000#32 - (S : EReal) = _
  rw [Ideal.ofBits_one_f32, ← EReal.coe_one, ← EReal.coe_sub]
  exact congrArg _ (by linarith)

/-- The rows after a trip: row `k` the new one, every other as it was. -/
theorem stored_apply (M : S7999x32x128.Idx → EReal) (u : S32x128.Idx → EReal) (st : Fin 3 → Int) (k : ℕ) (hk : k < 7999)
    (h0 : st 0 = (k : Int)) (h1 : st 1 = 0) (h2 : st 2 = 0) (j : Fin 7999) (b : Fin 32) (f : Fin 128) :
    Host.dynamicUpdateSlice M (broadcastInDim S1x32x128 ![1, 2] bcast_S32x128_S1x32x128_1_2 u) st updateFits_S7999x32x128_S1x32x128
        (ix3 j b f)
      = if j.val = k then u (ix2 b f) else M (ix3 j b f) := by
  have hs : S7999x32x128.Slices ![k, 0, 0] S1x32x128 := ⟨rfl, fun a => by
    match a with
    | ⟨0, _⟩ => show k + 1 ≤ 7999; omega
    | ⟨1, _⟩ => show 0 + 32 ≤ 32; omega
    | ⟨2, _⟩ => show 0 + 128 ≤ 128; omega⟩
  rw [WordCmp.dynamicUpdateSlice_eq_update M _ st updateFits_S7999x32x128_S1x32x128 ![k, 0, 0] hs (fun a => by
    match a with
    | ⟨0, _⟩ => exact h0
    | ⟨1, _⟩ => exact h1
    | ⟨2, _⟩ => exact h2)]
  unfold updateSlice
  by_cases hj : j.val = k
  · rw [if_pos hj, dif_pos (fun a => by
      match a with
      | ⟨0, _⟩ => exact (⟨hj.ge, by show j.val < k + 1; omega⟩ : k ≤ j.val ∧ j.val < k + 1)
      | ⟨1, _⟩ => exact (⟨Nat.zero_le _, by have := b.isLt; show b.val < 0 + 32; omega⟩ : 0 ≤ b.val ∧ b.val < 0 + 32)
      | ⟨2, _⟩ => exact (⟨Nat.zero_le _, by have := f.isLt; show f.val < 0 + 128; omega⟩ : 0 ≤ f.val ∧ f.val < 0 + 128))]
    refine broadcastInDim_apply ![1, 2] bcast_S32x128_S1x32x128_1_2 u _ (ix2 b f) ?_
    intro a
    match a with
    | ⟨0, _⟩ => rfl
    | ⟨1, _⟩ => rfl
  · rw [if_neg hj, dif_neg (fun h => hj (by
      have : k ≤ j.val ∧ j.val < k + 1 := h 0
      omega))]

/-! ## The invariant -/

/-- What the carried arrays hold after `k` trips. -/
structure Inv (S A : ℝ) (x : (⟨3, ![32, 128, 8000]⟩ : Shape).Idx → EReal) (k : ℕ) (xs ms : S7999x32x128.Idx → EReal)
    (w : S128.Idx → EReal) (ctr : S_.Idx → BitVec 32) (cur : S32x128.Idx → EReal) : Prop where
  /-- the inputs from time 1 on -/
  xs : ∀ (j : Fin 7999) (b : Fin 32) (f : Fin 128), xs (ix3 j b f) = tseq x b f (j.val + 1)
  /-- the coefficients, all one -/
  w : ∀ f : Fin 128, w (ix1 f) = (S : EReal)
  /-- the trip count -/
  ctr : ctr (Shape.Idx.first h_S_) = BitVec.ofNat 32 k
  /-- the running value -/
  cur : ∀ (b : Fin 32) (f : Fin 128), cur (ix2 b f) = ema S A (tseq x b f) k
  /-- the rows stored so far -/
  ms : ∀ (j : Fin 7999) (b : Fin 32) (f : Fin 128), j.val < k → ms (ix3 j b f) = ema S A (tseq x b f) (j.val + 1)

/-- The invariant of the buffers' contents `V`. -/
abbrev InvAt (S A : ℝ) (x : (⟨3, ![32, 128, 8000]⟩ : Shape).Idx → EReal) (k : ℕ) (V : Valuation τ sig (Elt Ideal)) : Prop :=
  Inv S A x k (V (Proc.devRef .tc main_v6_0)) (V (Proc.devRef .tc main_v6_4)) (V (Proc.devRef .tc main_v6_1))
    (V (Proc.devRef .tc main_v6_2)) (V (Proc.devRef .tc main_v6_3))

variable {x : (⟨3, ![32, 128, 8000]⟩ : Shape).Idx → EReal}

/-- The new running value. -/
theorem next_apply {k : ℕ} {V : Valuation τ sig (Elt Ideal)} (h : InvAt S A x k V) (hk : k < 7999) (h1 : A + S = 1) (b : Fin 32)
    (f : Fin 128) : (res_main_while0b_v48 V : S32x128.Idx → EReal) (ix2 b f) = ema S A (tseq x b f) (k + 1) := by
  have hc : ((V (Proc.devRef .tc main_v6_2) : S_.Idx → BitVec 32) (Shape.Idx.first h_S_)).toInt = (k : Int) := by
    rw [h.ctr]; exact toInt_ofNat_of_lt (by omega)
  unfold res_main_while0b_v48
  refine congrArg₂ (fun a b : EReal => a + b) (congrArg₂ (fun a b : EReal => a * b) ?_ (h.cur b f))
    (congrArg₂ (fun a b : EReal => a * b) ?_ ?_)
  · exact (spread_apply _ b f).trans (rest_apply _ f (h.w f) h1)
  · exact (spread_apply _ b f).trans (h.w f)
  · exact (row_apply _ _ k hk hc rfl rfl b f).trans (h.xs ⟨k, hk⟩ b f)

/-- One trip keeps it. -/
theorem inv_step {k : ℕ} {V : Valuation τ sig (Elt Ideal)} (h : InvAt S A x k V) (hk : k < 7999) (h1 : A + S = 1) :
    InvAt S A x (k + 1) (STEP V) := by
  have hc : ((V (Proc.devRef .tc main_v6_2) : S_.Idx → BitVec 32) (Shape.Idx.first h_S_)).toInt = (k : Int) := by
    rw [h.ctr]; exact toInt_ofNat_of_lt (by omega)
  unfold InvAt
  rw [STEP_main_v6_0, STEP_main_v6_1, STEP_main_v6_2, STEP_main_v6_3, STEP_main_v6_4]
  exact
    { xs := h.xs
      w := h.w
      ctr := (congrArg (fun a : BitVec 32 => a + 1#32) h.ctr).trans (BitVec.ofNat_add k 1).symm
      cur := next_apply h hk h1
      ms := fun j b f hj => by
        refine (stored_apply _ _ _ k hk hc rfl rfl j b f).trans ?_
        by_cases e : j.val = k
        · rw [if_pos e, e]; exact next_apply h hk h1 b f
        · rw [if_neg e]; exact h.ms j b f (by omega) }

/-- So do all of them. -/
theorem inv_iter {V : Valuation τ sig (Elt Ideal)} (h : InvAt S A x 0 V) (h1 : A + S = 1) :
    ∀ k, k ≤ 7999 → InvAt S A x k (STEP^[k] V)
  | 0, _ => h
  | k + 1, hk => by
    rw [Function.iterate_succ_apply']
    exact inv_step (inv_iter h h1 k (by omega)) (by omega) h1

end Cert.ReferenceIdeal.Pcen

end
-- ==== Proof.ReferenceValue.lean ====
/- What the reference computes, at the ideal instance: the operator, at every entry, wherever all channels share one coefficient. -/
module

public import proofs.«01_k».proof.Proof.ReferenceLoop

@[expose] public section

noncomputable section

namespace Cert.ReferenceIdeal.Pcen

open Idealize.ShloMosaic Idealize.ShloMosaic.ValueIdx Idealize.ShloMosaic.TcCoe Idealize.SL.Sem
open Cert.ReferenceIdeal.Gen Cert.ReferenceIdeal.Value Cert.Pcen Idealize.ShloMosaic.StableHlo

variable (m : (ℓ : Loc nD τ sig) → Buf (Elt Ideal) ℓ)

/-! ## The loop's entry -/

/-- The input with time first. -/
abbrev timeMajor (x : S32x128x8000.Idx → EReal) : S8000x32x128.Idx → EReal :=
  transpose S8000x32x128 [2, 0, 1] x transposes_S32x128x8000_S8000x32x128_2_0_1

set_option maxRecDepth 65536 in
/-- The loop is entered with the inputs from time 1 on. -/
theorem entry_v6_0 (c : Dev nD) : entryContents preI m c (Proc.devRef .tc main_v6_0)
    = extractStridedSlice S7999x32x128 ![1, 0, 0] (timeMajor (m ((c : Thread nD τ).loc main_arg0)))
        slices_S8000x32x128_S7999x32x128_1_0_0 := by
  simp only [entryContents, afterL_cons, afterL_nil]
  after_reads_simp
  rfl

set_option maxRecDepth 65536 in
/-- With the coefficients. -/
theorem entry_v6_1 (c : Dev nD) : entryContents preI m c (Proc.devRef .tc main_v6_1)
    = Host.exp (F := Ideal) (s := S128) (φ := .f32) (m ((c : Thread nD τ).loc main_arg1)) := by
  simp only [entryContents, afterL_cons, afterL_nil]
  after_reads_simp
  rfl

set_option maxRecDepth 65536 in
/-- With the input at time 0 as the running value. -/
theorem entry_v6_3 (c : Dev nD) : entryContents preI m c (Proc.devRef .tc main_v6_3)
    = shapeCast S32x128 (extractStridedSlice S1x32x128 ![0, 0, 0] (timeMajor (m ((c : Thread nD τ).loc main_arg0)))
        slices_S8000x32x128_S1x32x128_0_0_0) shapeCasts_S1x32x128_S32x128 := by
  simp only [entryContents, afterL_cons, afterL_nil]
  after_reads_simp
  rfl

/-- The input with time first, at an index. -/
theorem timeMajor_apply (x : S32x128x8000.Idx → EReal) (t : Fin 8000) (b : Fin 32) (f : Fin 128) :
    timeMajor x (ix3 t b f) = x (ix3 b f t) :=
  transpose_apply [2, 0, 1] x transposes_S32x128x8000_S8000x32x128_2_0_1 (ix3 t b f) (ix3 b f t) (fun a => by
    match a with
    | ⟨0, _⟩ => rfl
    | ⟨1, _⟩ => rfl
    | ⟨2, _⟩ => rfl)

/-- The inputs from time 1 on, as a sequence. -/
theorem later_apply (x : S32x128x8000.Idx → EReal) (j : Fin 7999) (b : Fin 32) (f : Fin 128) :
    extractStridedSlice S7999x32x128 ![1, 0, 0] (timeMajor x) slices_S8000x32x128_S7999x32x128_1_0_0 (ix3 j b f)
      = tseq x b f (j.val + 1) := by
  have hj : j.val + 1 < 8000 := by have := j.isLt; omega
  rw [tseq_of_lt x b f _ hj]
  refine Eq.trans ?_ (timeMajor_apply x ⟨j.val + 1, hj⟩ b f)
  exact extractStridedSlice_apply ![1, 0, 0] (timeMajor x) slices_S8000x32x128_S7999x32x128_1_0_0 (ix3 j b f)
    (ix3 (⟨j.val + 1, hj⟩ : Fin 8000) b f) (fun a => by
      match a with
      | ⟨0, _⟩ => exact Nat.add_comm _ _
      | ⟨1, _⟩ => exact (Nat.zero_add _).symm
      | ⟨2, _⟩ => exact (Nat.zero_add _).symm)

/-- The first input. -/
theorem first_apply (x : S32x128x8000.Idx → EReal) (b : Fin 32) (f : Fin 128) :
    shapeCast S32x128 (extractStridedSlice S1x32x128 ![0, 0, 0] (timeMajor x) slices_S8000x32x128_S1x32x128_0_0_0)
        shapeCasts_S1x32x128_S32x128 (ix2 b f) = tseq x b f 0 := by
  rw [tseq_of_lt x b f 0 (by omega)]
  refine Eq.trans ?_ (timeMajor_apply x ⟨0, by omega⟩ b f)
  refine (shapeCast_dropUnit_apply ![32, 128] _ shapeCasts_S1x32x128_S32x128 (ix2 b f)).trans ?_
  exact extractStridedSlice_apply ![0, 0, 0] (timeMajor x) slices_S8000x32x128_S1x32x128_0_0_0
    (Fin.cons ⟨0, Nat.one_pos⟩ (ix2 b f)) (ix3 (⟨0, by omega⟩ : Fin 8000) b f) (fun a => by
      match a with
      | ⟨0, _⟩ => rfl
      | ⟨1, _⟩ => exact (Nat.zero_add _).symm
      | ⟨2, _⟩ => exact (Nat.zero_add _).symm)

variable {S A : ℝ}

/-- The invariant holds where the loop is entered. -/
theorem inv_entry (c : Dev nD) (x : S32x128x8000.Idx → EReal) (s : S128.Idx → EReal) (hx : m ((c : Thread nD τ).loc main_arg0) = x)
    (hs1 : m ((c : Thread nD τ).loc main_arg1) = s) (hs : ∀ f : Fin 128, Ideal.exp (s (ix1 f)) = (S : EReal)) :
    InvAt S A x 0 (entryContents preI m c) := by
  unfold InvAt
  rw [entry_v6_0, entry_v6_1, entry_v6_3, ctr_entry, hx, hs1]
  exact
    { xs := later_apply x
      w := hs
      ctr := rfl
      cur := first_apply x
      ms := fun _ _ _ h => absurd h (Nat.not_lt_zero _) }

/-! ## After the loop -/

/-- The smoother's array: the first input, then the rows the loop stored. -/
abbrev joined (x : S32x128x8000.Idx → EReal) (ms : S7999x32x128.Idx → EReal) : S32x128x8000.Idx → EReal :=
  concatenate S32x128x8000 2
    [⟨S32x128x1, extractStridedSlice S32x128x1 ![0, 0, 0] x slices_S32x128x8000_S32x128x1_0_0_0⟩,
     ⟨S32x128x7999, transpose S32x128x7999 [1, 2, 0] ms transposes_S7999x32x128_S32x128x7999_1_2_0⟩]
    concatenates_S32x128x1_S32x128x7999_S32x128x8000_d2

/-- It holds the smoother at every time. -/
theorem joined_apply (x : S32x128x8000.Idx → EReal) (ms : S7999x32x128.Idx → EReal)
    (hms : ∀ (j : Fin 7999) (b : Fin 32) (f : Fin 128), ms (ix3 j b f) = ema S A (tseq x b f) (j.val + 1))
    (b : Fin 32) (f : Fin 128) (t : Fin 8000) : joined x ms (ix3 b f t) = ema S A (tseq x b f) t.val := by
  obtain ⟨t, ht⟩ := t
  cases t with
  | zero =>
    refine (concatenate_pair_apply_left 2 _ _ concatenates_S32x128x1_S32x128x7999_S32x128x8000_d2 _ rfl (ix3 b f (0 : Fin 1))
      (fun a => by
        match a with
        | ⟨0, _⟩ => rfl
        | ⟨1, _⟩ => rfl
        | ⟨2, _⟩ => rfl)).trans ?_
    refine Eq.trans ?_ (tseq_of_lt x b f 0 ht).symm
    exact extractStridedSlice_apply ![0, 0, 0] x slices_S32x128x8000_S32x128x1_0_0_0 (ix3 b f (0 : Fin 1))
      (ix3 b f (⟨0, ht⟩ : Fin 8000)) (fun a => by
        match a with
        | ⟨0, _⟩ => exact (Nat.zero_add _).symm
        | ⟨1, _⟩ => exact (Nat.zero_add _).symm
        | ⟨2, _⟩ => rfl)
  | succ j =>
    have hj : j < 7999 := by omega
    refine (concatenate_pair_apply_right 2 _ _ concatenates_S32x128x1_S32x128x7999_S32x128x8000_d2 _ rfl rfl
      (ix3 b f (⟨j, hj⟩ : Fin 7999)) (fun a ha => by
        match a with
        | ⟨0, _⟩ => rfl
        | ⟨1, _⟩ => rfl
        | ⟨2, _⟩ => exact absurd rfl ha) rfl).trans ?_
    refine Eq.trans ?_ (hms ⟨j, hj⟩ b f)
    exact transpose_apply [1, 2, 0] ms transposes_S7999x32x128_S32x128x7999_1_2_0 (ix3 b f (⟨j, hj⟩ : Fin 7999))
      (ix3 (⟨j, hj⟩ : Fin 7999) b f) (fun a => by
        match a with
        | ⟨0, _⟩ => rfl
        | ⟨1, _⟩ => rfl
        | ⟨2, _⟩ => rfl)

/-- A column of one value per channel, as the reference broadcasts it over batch and time. -/
theorem column_apply (p : S128x1.Idx → EReal) (b : Fin 32) (f : Fin 128) (t : Fin 8000) :
    broadcastInDim S32x128x8000 ![0, 1, 2] bcast_S1x128x1_S32x128x8000_0_1_2
        (broadcastInDim S1x128x1 ![1, 2] bcast_S128x1_S1x128x1_1_2 p) (ix3 b f t) = p (ix2 f 0) := by
  refine (broadcastInDim_apply ![0, 1, 2] bcast_S1x128x1_S32x128x8000_0_1_2 _ (ix3 b f t) (ix3 0 f 0) (fun a => by
    match a with
    | ⟨0, _⟩ => rfl
    | ⟨1, _⟩ => rfl
    | ⟨2, _⟩ => rfl)).trans ?_
  exact broadcastInDim_apply ![1, 2] bcast_S128x1_S1x128x1_1_2 p (ix3 0 f 0) (ix2 f 0) (fun a => by
    match a with
    | ⟨0, _⟩ => rfl
    | ⟨1, _⟩ => rfl)

/-- The exponential of a parameter, as a column. -/
theorem expCol_apply (p : S128.Idx → EReal) (f : Fin 128) :
    broadcastInDim S128x1 ![0] bcast_S128_S128x1_0 (Host.exp (F := Ideal) (s := S128) (φ := .f32) p) (ix2 f 0)
      = Ideal.exp (p (ix1 f)) :=
  (broadcastInDim_apply ![0] bcast_S128_S128x1_0 _ (ix2 f 0) (ix1 f) (fun a => by
    match a with
    | ⟨0, _⟩ => rfl)).trans rfl

/-- THE RESULT of the operations after the loop, at an entry. -/
theorem out_apply (V : Valuation τ sig (Elt Ideal)) (x : S32x128x8000.Idx → EReal) (al de ex : S128.Idx → EReal)
    (hx : V (Proc.devRef .tc main_arg0) = x) (hal : V (Proc.devRef .tc main_arg2) = al) (hde : V (Proc.devRef .tc main_arg3) = de)
    (hex : V (Proc.devRef .tc main_arg4) = ex) (h : InvAt S A x 7999 V) (b : Fin 32) (f : Fin 128) (t : Fin 8000) :
    (out_main_v38 V : S32x128x8000.Idx → EReal) (ix3 b f t) = spec S A x al de ex b f t := by
  obtain ⟨e, he, hee⟩ := eps_pos
  have hd := column_apply (broadcastInDim S128x1 ![0] bcast_S128_S128x1_0 (Host.exp (F := Ideal) (s := S128) (φ := .f32) de)) b f t
  have hr := column_apply (broadcastInDim S128x1 ![0] bcast_S128_S128x1_0 (Host.exp (F := Ideal) (s := S128) (φ := .f32) ex)) b f t
  have hj := joined_apply (S := S) (A := A) x (V (Proc.devRef .tc main_v6_4)) (fun j b f => h.ms j b f j.isLt) b f t
  have hc : broadcastInDim S32x128x8000 ![] bcast_S_S32x128x8000 (constant (F := Ideal) S_ .f32 0x358637BD#32) (ix3 b f t)
      = (e : EReal) := by rw [broadcastInDim_scalar_apply]; exact hee
  have hl : broadcastInDim S32x128x8000 ![] bcast_S_S32x128x8000
      (id (Host.log (constant (F := Ideal) S_ .f32 0x358637BD#32))) (ix3 b f t) = Ideal.log (e : EReal) := by
    rw [broadcastInDim_scalar_apply]; exact congrArg Ideal.log hee
  have ha := column_apply (Host.negf (F := Ideal) (s := S128x1) (φ := .f32)
    (broadcastInDim S128x1 ![0] bcast_S128_S128x1_0 (Host.exp (F := Ideal) (s := S128) (φ := .f32) al))) b f t
  have hdr := column_apply (Host.powf (F := Ideal) (s := S128x1) (φ := .f32)
    (broadcastInDim S128x1 ![0] bcast_S128_S128x1_0 (Host.exp (F := Ideal) (s := S128) (φ := .f32) de))
    (broadcastInDim S128x1 ![0] bcast_S128_S128x1_0 (Host.exp (F := Ideal) (s := S128) (φ := .f32) ex))) b f t
  unfold spec eps
  rw [hee, ← pcen_reference he]
  unfold out_main_v38
  rw [hx, hal, hde, hex]
  refine congrArg₂ (fun a b : EReal => a - b) (congrArg₂ Ideal.pow (congrArg₂ (fun a b : EReal => a + b)
      (congrArg (fun a : EReal => x (ix3 b f t) * Ideal.exp a) (congrArg₂ (fun a b : EReal => a * b) ?_
        (congrArg₂ (fun a b : EReal => a + b) hl (congrArg Ideal.log1p (congrArg₂ Ideal.div hj hc))))) ?_) ?_) ?_
  · exact ha.trans (congrArg (fun a : EReal => -a) (expCol_apply al f))
  · exact hd.trans (expCol_apply de f)
  · exact hr.trans (expCol_apply ex f)
  · exact hdr.trans (congrArg₂ Ideal.pow (expCol_apply de f) (expCol_apply ex f))

/-- WHAT THE REFERENCE ENDS WITH. -/
theorem reference_eq (c : Dev nD) (x : S32x128x8000.Idx → EReal) (s al de ex : S128.Idx → EReal)
    (hx : m ((c : Thread nD τ).loc main_arg0) = x) (hs1 : m ((c : Thread nD τ).loc main_arg1) = s)
    (hal : m ((c : Thread nD τ).loc main_arg2) = al) (hde : m ((c : Thread nD τ).loc main_arg3) = de)
    (hex : m ((c : Thread nD τ).loc main_arg4) = ex)
    (hs : ∀ f : Fin 128, Ideal.exp (s (ix1 f)) = (S : EReal)) (h1 : A + S = 1) :
    out_main_v38 (STEP^[7999] (entryContents preI m c)) = specArr S A x al de ex := by
  have hI : InvAt S A x 7999 (STEP^[7999] (entryContents preI m c)) := inv_iter (inv_entry m c x s hx hs1 hs) h1 7999 le_rfl
  funext y
  refine (congrArg _ (eq_ix3 y)).trans ?_
  exact out_apply _ x al de ex ((iter_main_arg0 m c 7999).trans hx) ((iter_main_arg2 m c 7999).trans hal)
    ((iter_main_arg3 m c 7999).trans hde) ((iter_main_arg4 m c 7999).trans hex) hI (y 0) (y 1) (y 2)

end Cert.ReferenceIdeal.Pcen

end
-- ==== Proof.Precondition.lean ====
/- What the precondition says of the arguments: no input is negative, all channels share one coefficient, and its logarithm is
   not positive. -/
module

public import proofs.«01_k».proof.Pre_nonneg_one_coeff
public import Idealize.ShloMosaic.Lib.ReduceAll
public import Idealize.ShloMosaic.Lib.ValueIdx
public import Idealize.ShloMosaic.Lib.IdealHost
public import Idealize.ShloMosaic.Lib.Pipeline.Value

@[expose] public section

noncomputable section

namespace Cert.Pre_nonneg_one_coeff

open Idealize.ShloMosaic Idealize.ShloMosaic.ValueIdx

/-- The shape relations the precondition states. -/
instance facts : Facts where
  bcast_S_S32x128x8000 := by decide
  reducesTo_S32x128x8000_S_d0_1_2 := by decide
  h_S_ := by decide
  slices_S128_S1_0 := by decide
  shapeCasts_S1_S_ := by decide
  bcast_S_S128 := by decide
  reducesTo_S128_S_d0 := by decide

/-- A rank-zero shape has one index. -/
instance : Subsingleton S_.Idx := ⟨fun _ _ => funext fun a => a.elim0⟩

/-- Both of two bits are one if their conjunction is. -/
theorem and_one (a b : BitVec 1) (h : a &&& b = 1#1) : a = 1#1 ∧ b = 1#1 := by
  revert a b; decide

/-- A truth value's bit is one only if it is true. -/
theorem of_bit {p : Prop} [Decidable p] (h : BitVec.ofBool (decide p) = 1#1) : p := by
  by_contra hp
  rw [decide_eq_false hp] at h
  exact absurd h (by decide)

variable {x : S32x128x8000.Idx → EReal} {s al de ex : S128.Idx → EReal}

/-- What the precondition says, spelled out. -/
theorem of_fn (h : fn (F := Ideal) x s al de ex = fun _ => 1#1) :
    (∀ y, 0 ≤ x y) ∧ (∀ f : Fin 128, s (ix1 f) = s (ix1 0)) ∧ s (ix1 0) ≤ 0 := by
  have h0 := congrFun h ix0
  obtain ⟨hx, hs⟩ := and_one _ _ h0
  obtain ⟨he, hl⟩ := and_one _ _ hs
  have hz : ∀ y, broadcastInDim S32x128x8000 ![] Facts.bcast_S_S32x128x8000 (constant (F := Ideal) S_ .f32 0x00000000#32) y = 0 :=
    fun y => (broadcastInDim_scalar_apply _ _ y).trans Ideal.ofBits_zero_f32
  have hz' : ∀ y, broadcastInDim S128 ![] Facts.bcast_S_S128 (constant (F := Ideal) S_ .f32 0x00000000#32) y = 0 :=
    fun y => (broadcastInDim_scalar_apply _ _ y).trans Ideal.ofBits_zero_f32
  refine ⟨fun y => ?_, fun f => ?_, ?_⟩
  · exact (hz y).symm.le.trans (of_bit (Host.reduce_andi_all _ _ _ _ _ hx y))
  · refine (of_bit (Host.reduce_andi_all _ _ _ _ _ he (ix1 f))).trans ?_
    refine (broadcastInDim_scalar_apply _ _ (ix1 f)).trans ?_
    refine (shapeCast_apply _ Facts.shapeCasts_S1_S_ ix0 (ix1 0) rfl).trans ?_
    exact extractStridedSlice_apply ![0] s Facts.slices_S128_S1_0 (ix1 0) (ix1 0) (fun a => by
      match a with
      | ⟨0, _⟩ => rfl)
  · exact (of_bit (Host.reduce_andi_all _ _ _ _ _ hl (ix1 0))).trans (hz' _).le

end Cert.Pre_nonneg_one_coeff

end
-- ==== Proof.Claims.lean ====
/- The two programs' runs with the value of each result, and the equation between them. -/
module

public import proofs.«01_k».proof.Defs
public import proofs.«01_k».proof.Proof.KernelEntry
public import proofs.«01_k».proof.Proof.ReferenceValue
public import proofs.«01_k».proof.Proof.Precondition
public import Idealize.ShloMosaic.Lib.Quiescent

@[expose] public section

noncomputable section

namespace Cert.Proof

open Idealize.ShloMosaic Idealize.ShloMosaic.ValueIdx Idealize.ShloMosaic.TcCoe Idealize.SL.Sem Cert.Pcen

/-- THE KERNEL'S RUN, on memories whose entry values are known: the result is the operator, the arguments are unchanged. -/
theorem kernel_run (m : (ℓ : Loc Cert.KernelIdeal.nD Cert.KernelIdeal.τ Cert.KernelIdeal.sig) → Buf (Elt Ideal) ℓ)
    (g : Dev Cert.KernelIdeal.nD → PrngReg)
    (v : (c : Dev Cert.KernelIdeal.nD) → Buf (Elt Ideal) ((c.tc : Thread Cert.KernelIdeal.nD Cert.KernelIdeal.τ).loc Cert.KernelIdeal.main_v38))
    (hv : ∀ c, Pipeline.afterTail₀ Cert.KernelIdeal.cfgs (Cert.KernelIdeal.Gen.dats m) 0 (Cert.KernelIdeal.Gen.V0 m)
      [Cert.KernelIdeal.Gen.hostOps1] c Cert.KernelIdeal.main_v38 = v c) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v38) = v c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run Cert.KernelIdeal.defs _ _).mono (fun r h c => ⟨?_, ?_⟩)
    (θ_run_and (Cert.KernelIdeal.Gen.run_main m g) (Cert.KernelIdeal.Gen.unchanged m g))
  · exact ((h.1 c).2 Cert.KernelIdeal.main_v38 (Pipeline.mem_restRefs_of Cert.KernelIdeal.main_v38 (by decide) (by decide))).trans (hv c)
  · exact h.2 c

/-- THE REFERENCE'S FRAME: it runs, its arguments end unchanged, and it has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

/-- On a device whose arguments meet the precondition there is one coefficient `S` in [0, 1], and with `A = 1 - S` both programs
    end with the operator. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (x : (⟨3, ![32, 128, 8000]⟩ : Shape).Idx → EReal) (s al de ex : (⟨1, ![128]⟩ : Shape).Idx → EReal)
    (h0 : m ((c.tc : Thread Cert.KernelIdeal.nD Cert.KernelIdeal.τ).loc Cert.KernelIdeal.main_arg0) = x)
    (h1 : m ((c.tc : Thread Cert.KernelIdeal.nD Cert.KernelIdeal.τ).loc Cert.KernelIdeal.main_arg1) = s)
    (h2 : m ((c.tc : Thread Cert.KernelIdeal.nD Cert.KernelIdeal.τ).loc Cert.KernelIdeal.main_arg2) = al)
    (h3 : m ((c.tc : Thread Cert.KernelIdeal.nD Cert.KernelIdeal.τ).loc Cert.KernelIdeal.main_arg3) = de)
    (h4 : m ((c.tc : Thread Cert.KernelIdeal.nD Cert.KernelIdeal.τ).loc Cert.KernelIdeal.main_arg4) = ex)
    (h0' : m' ((c.tc : Thread Cert.ReferenceIdeal.nD Cert.ReferenceIdeal.τ).loc Cert.ReferenceIdeal.main_arg0) = x)
    (h1' : m' ((c.tc : Thread Cert.ReferenceIdeal.nD Cert.ReferenceIdeal.τ).loc Cert.ReferenceIdeal.main_arg1) = s)
    (h2' : m' ((c.tc : Thread Cert.ReferenceIdeal.nD Cert.ReferenceIdeal.τ).loc Cert.ReferenceIdeal.main_arg2) = al)
    (h3' : m' ((c.tc : Thread Cert.ReferenceIdeal.nD Cert.ReferenceIdeal.τ).loc Cert.ReferenceIdeal.main_arg3) = de)
    (h4' : m' ((c.tc : Thread Cert.ReferenceIdeal.nD Cert.ReferenceIdeal.τ).loc Cert.ReferenceIdeal.main_arg4) = ex)
    (hpre : Cert.Pre_nonneg_one_coeff.fn (F := Ideal) x s al de ex = fun _ => 1#1) :
    ∃ v : (⟨3, ![32, 128, 8000]⟩ : Shape).Idx → EReal,
      Pipeline.afterTail₀ Cert.KernelIdeal.cfgs (Cert.KernelIdeal.Gen.dats m) 0 (Cert.KernelIdeal.Gen.V0 m)
        [Cert.KernelIdeal.Gen.hostOps1] c Cert.KernelIdeal.main_v38 = v
      ∧ Cert.ReferenceIdeal.Value.out_main_v38
          (Cert.ReferenceIdeal.Value.STEP^[7999] (StableHlo.entryContents Cert.ReferenceIdeal.Value.preI m' c)) = v := by
  obtain ⟨hx, hs, hle⟩ := Cert.Pre_nonneg_one_coeff.of_fn hpre
  obtain ⟨S, hS, hS1, hexp⟩ := exp_of_nonpos hle
  have hA : (0 : ℝ) ≤ 1 - S := by linarith
  have hAS : (1 - S) + S = (1 : ℝ) := by ring
  refine ⟨specArr S (1 - S) x al de ex, ?_, ?_⟩
  · exact Cert.KernelIdeal.Pcen.result_eq (Cert.KernelIdeal.Pcen.entry m c x s al de ex h0 h1 h2 h3 h4 hexp hA hAS) hS hA hAS hx
  · exact Cert.ReferenceIdeal.Pcen.reference_eq m' c x s al de ex h0' h1' h2' h3' h4' (fun f => by rw [hs f]; exact hexp) hAS

/-- THE EQUATION: under the precondition, from equal arguments, both programs end with equal results. -/
theorem algebraic : Cert.algebraic_KernelIdeal_ReferenceIdeal_pre_nonneg_one_coeff := by
  intro m g m' g' hpre hagree
  have hval := fun c => values_eq m m' c _ _ _ _ _ rfl rfl rfl rfl rfl (hagree c).1 (hagree c).2.1 (hagree c).2.2.1
    (hagree c).2.2.2.1 (hagree c).2.2.2.2 (hpre c)
  choose v hk hr using hval
  refine ⟨v, kernel_run m g v hk, ?_⟩
  exact (θ_run Cert.ReferenceIdeal.defs _ _).mono (fun _ h c => ⟨(h c).1.trans (hr c), (h c).2⟩)
    (Cert.ReferenceIdeal.Value.run (F := Ideal) m' g')

end Cert.Proof

end
-- ==== Proof.lean ====
/- The certificate: every claim made of the kernel and its reference, assembled. -/
module

public import proofs.«01_k».proof.Defs
public import proofs.«01_k».proof.Proof.Gen.Kernel.Frame
public import proofs.«01_k».proof.Proof.Gen.KernelIdeal.Frame
public import proofs.«01_k».proof.Proof.Claims

@[expose] public section

noncomputable section

namespace Cert.Proof

open Idealize.ShloMosaic Idealize.SL.Sem

/-- Both programs and the reference run and leave their arguments and the machine's counters as they found them, and under the
    precondition the kernel and the reference end with equal results. -/
theorem claim : Cert.Claim :=
  ⟨Cert.Kernel.Gen.facts, Cert.KernelIdeal.Gen.facts, Cert.ReferenceIdeal.Gen.facts, Cert.Pre_nonneg_one_coeff.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
